-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ffn2_finite [hPre_ffn2_finite : Cert.Pre_ffn2_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ffn2_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_ffn2_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_ffn2_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ffn2_finite [hPre_ffn2_finite : Cert.Pre_ffn2_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ffn2_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_ffn2_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_ffn2_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_ffn1_finite [hPre_ffn1_finite : Cert.Pre_ffn1_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ffn1_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_ffn1_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_ffn1_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ffn1_finite [hPre_ffn1_finite : Cert.Pre_ffn1_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ffn1_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_ffn1_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_ffn1_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ffn2_finite [hKernelIdeal : Cert.KernelIdeal.Facts] [hPre_ffn2_finite : Cert.Pre_ffn2_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ffn2_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ffn2_finite [hReferenceIdeal : Cert.ReferenceIdeal.Facts] [hPre_ffn2_finite : Cert.Pre_ffn2_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ffn2_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_ffn1_finite [hKernel5Ideal : Cert.Kernel5Ideal.Facts] [hPre_ffn1_finite : Cert.Pre_ffn1_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_ffn1_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_ffn1_finite [hReference5Ideal : Cert.Reference5Ideal.Facts] [hPre_ffn1_finite : Cert.Pre_ffn1_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ffn1_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def algebraic_KernelIdeal_ReferenceIdeal_pre_ffn2_finite [hKernelIdeal : Cert.KernelIdeal.Facts] [hReferenceIdeal : Cert.ReferenceIdeal.Facts] [hPre_ffn2_finite : Cert.Pre_ffn2_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ffn2_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_ffn1_finite [hKernel5Ideal : Cert.Kernel5Ideal.Facts] [hReference5Ideal : Cert.Reference5Ideal.Facts] [hPre_ffn1_finite : Cert.Pre_ffn1_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_ffn1_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v37) = v0 c
          ∧ r.2.mem ((c.tc : Thread Cert.Reference10Ideal.nD Cert.Reference10Ideal.τ).loc Cert.Reference10Ideal.main_v38) = v1 c
          ∧ r.2.mem ((c.tc : Thread Cert.Reference10Ideal.nD Cert.Reference10Ideal.τ).loc Cert.Reference10Ideal.main_v39) = v2 c
          ∧ r.2.mem ((c.tc : Thread Cert.Reference10Ideal.nD Cert.Reference10Ideal.τ).loc Cert.Reference10Ideal.main_v40) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v70) = v0 c
          ∧ r.2.mem ((c.tc : Thread Cert.Reference14Ideal.nD Cert.Reference14Ideal.τ).loc Cert.Reference14Ideal.main_v77) = v1 c
          ∧ r.2.mem ((c.tc : Thread Cert.Reference14Ideal.nD Cert.Reference14Ideal.τ).loc Cert.Reference14Ideal.main_v78) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg3) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)) (v4 : (c : Dev Cert.Kernel19Ideal.nD) → Buf (Elt Ideal) ((c.tc : Thread Cert.Kernel19Ideal.nD Cert.Kernel19Ideal.τ).loc Cert.Kernel19Ideal.main_v1_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_v1_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v69) = v0 c
          ∧ r.2.mem ((c.tc : Thread Cert.Reference19Ideal.nD Cert.Reference19Ideal.τ).loc Cert.Reference19Ideal.main_v71) = v1 c
          ∧ r.2.mem ((c.tc : Thread Cert.Reference19Ideal.nD Cert.Reference19Ideal.τ).loc Cert.Reference19Ideal.main_v68) = v2 c
          ∧ r.2.mem ((c.tc : Thread Cert.Reference19Ideal.nD Cert.Reference19Ideal.τ).loc Cert.Reference19Ideal.main_v47) = v3 c
          ∧ r.2.mem ((c.tc : Thread Cert.Reference19Ideal.nD Cert.Reference19Ideal.τ).loc Cert.Reference19Ideal.main_v73) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)) (v4 : (c : Dev Cert.Kernel20Ideal.nD) → Buf (Elt Ideal) ((c.tc : Thread Cert.Kernel20Ideal.nD Cert.Kernel20Ideal.τ).loc Cert.Kernel20Ideal.main_v0_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_v0_4) = v4 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v1) = v1 c
          ∧ r.2.mem ((c.tc : Thread Cert.Reference20Ideal.nD Cert.Reference20Ideal.τ).loc Cert.Reference20Ideal.main_v2) = v2 c
          ∧ r.2.mem ((c.tc : Thread Cert.Reference20Ideal.nD Cert.Reference20Ideal.τ).loc Cert.Reference20Ideal.main_v3) = v3 c
          ∧ r.2.mem ((c.tc : Thread Cert.Reference20Ideal.nD Cert.Reference20Ideal.τ).loc Cert.Reference20Ideal.main_v4) = v4 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_ffn2_finite : Cert.Pre_ffn2_finite.Facts) (hPre_ffn1_finite : Cert.Pre_ffn1_finite.Facts),
    quiescent_Kernel (hKernel := hKernel)
    ∧ quiescent_KernelIdeal (hKernelIdeal := hKernelIdeal)
    ∧ quiescent_KernelIdeal_pre_ffn2_finite (hKernelIdeal := hKernelIdeal) (hPre_ffn2_finite := hPre_ffn2_finite)
    ∧ quiescent_ReferenceIdeal (hReferenceIdeal := hReferenceIdeal)
    ∧ quiescent_ReferenceIdeal_pre_ffn2_finite (hReferenceIdeal := hReferenceIdeal) (hPre_ffn2_finite := hPre_ffn2_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_ffn1_finite (hKernel5Ideal := hKernel5Ideal) (hPre_ffn1_finite := hPre_ffn1_finite)
    ∧ quiescent_Reference5Ideal (hReference5Ideal := hReference5Ideal)
    ∧ quiescent_Reference5Ideal_pre_ffn1_finite (hReference5Ideal := hReference5Ideal) (hPre_ffn1_finite := hPre_ffn1_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_ffn2_finite (hKernelIdeal := hKernelIdeal) (hReferenceIdeal := hReferenceIdeal) (hPre_ffn2_finite := hPre_ffn2_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_ffn1_finite (hKernel5Ideal := hKernel5Ideal) (hReference5Ideal := hReference5Ideal) (hPre_ffn1_finite := hPre_ffn1_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_ffn1_finite.lean ====
abbrev S9216x1024 : Shape := ⟨2, ![9216, 1024]⟩
abbrev S2816x1024 : Shape := ⟨2, ![2816, 1024]⟩
abbrev S2x9216x2816 : Shape := ⟨3, ![2, 9216, 2816]⟩
abbrev S_ : Shape := ⟨0, ![]⟩
abbrev S1x9216x2816 : Shape := ⟨3, ![1, 9216, 2816]⟩
abbrev S9216x2816 : Shape := ⟨2, ![9216, 2816]⟩

class Facts : Prop where
  bitsLt_bf16_f32 : FTy.bits .bf16 < FTy.bits .f32
  bcast_S_S9216x1024 : S_.BroadcastsInDim S9216x1024 (![] : Fin 0 → Fin S9216x1024.rank)
  bcast_S_S2816x1024 : S_.BroadcastsInDim S2816x1024 (![] : Fin 0 → Fin S2816x1024.rank)
  slices_S2x9216x2816_S1x9216x2816_1_0_0 : S2x9216x2816.Slices ![1, 0, 0] S1x9216x2816
  shapeCasts_S1x9216x2816_S9216x2816 : S1x9216x2816.ShapeCasts S9216x2816
  bcast_S_S9216x2816 : S_.BroadcastsInDim S9216x2816 (![] : Fin 0 → Fin S9216x2816.rank)

variable [Facts]

def fn {F : FTy → Type} [FloatOps F] (main_arg0 : FVec F S9216x1024 .bf16) (main_arg1 : FVec F S2816x1024 .bf16) (main_arg2 : FVec F S2x9216x2816 .bf16) : IVec S9216x1024 1 × IVec S2816x1024 1 × IVec S9216x2816 1 :=
  let main_v0 : FVec F S9216x1024 .f32 := (extf .f32 · bitsLt_bf16_f32) main_arg0
  let main_v1 : FVec F S9216x1024 .f32 := subf main_v0 main_v0
  let main_cst : FVec F S_ .f32 := constant S_ .f32 0x00000000#32
  let main_v2 : FVec F S9216x1024 .f32 := broadcastInDim S9216x1024 ![] bcast_S_S9216x1024 main_cst
  let main_v3 : IVec S9216x1024 1 := cmpf .oeq main_v1 main_v2
  let main_v4 : FVec F S2816x1024 .f32 := (extf .f32 · bitsLt_bf16_f32) main_arg1
  let main_v5 : FVec F S2816x1024 .f32 := subf main_v4 main_v4
  let main_cst_0 : FVec F S_ .f32 := constant S_ .f32 0x00000000#32
  let main_v6 : FVec F S2816x1024 .f32 := broadcastInDim S2816x1024 ![] bcast_S_S2816x1024 main_cst_0
  let main_v7 : IVec S2816x1024 1 := cmpf .oeq main_v5 main_v6
  let main_v8 : FVec F S1x9216x2816 .bf16 := (extractStridedSlice S1x9216x2816 ![1, 0, 0] · slices_S2x9216x2816_S1x9216x2816_1_0_0) main_arg2
  let main_v9 : FVec F S9216x2816 .bf16 := shapeCast S9216x2816 main_v8 shapeCasts_S1x9216x2816_S9216x2816
  let main_v10 : FVec F S9216x2816 .f32 := (extf .f32 · bitsLt_bf16_f32) main_v9
  let main_v11 : FVec F S9216x2816 .f32 := subf main_v10 main_v10
  let main_cst_1 : FVec F S_ .f32 := constant S_ .f32 0x00000000#32
  let main_v12 : FVec F S9216x2816 .f32 := broadcastInDim S9216x2816 ![] bcast_S_S9216x2816 main_cst_1
  let main_v13 : IVec S9216x2816 1 := cmpf .oeq main_v11 main_v12
  (main_v3, main_v7, main_v13)
-- ==== Pre_ffn2_finite.lean ====
abbrev S8192x1024 : Shape := ⟨2, ![8192, 1024]⟩
abbrev S2816x1024 : Shape := ⟨2, ![2816, 1024]⟩
abbrev S2x8192x2816 : Shape := ⟨3, ![2, 8192, 2816]⟩
abbrev S_ : Shape := ⟨0, ![]⟩
abbrev S1x8192x2816 : Shape := ⟨3, ![1, 8192, 2816]⟩
abbrev S8192x2816 : Shape := ⟨2, ![8192, 2816]⟩

class Facts : Prop where
  bitsLt_bf16_f32 : FTy.bits .bf16 < FTy.bits .f32
  bcast_S_S8192x1024 : S_.BroadcastsInDim S8192x1024 (![] : Fin 0 → Fin S8192x1024.rank)
  bcast_S_S2816x1024 : S_.BroadcastsInDim S2816x1024 (![] : Fin 0 → Fin S2816x1024.rank)
  slices_S2x8192x2816_S1x8192x2816_1_0_0 : S2x8192x2816.Slices ![1, 0, 0] S1x8192x2816
  shapeCasts_S1x8192x2816_S8192x2816 : S1x8192x2816.ShapeCasts S8192x2816
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S2x8192x2816 .bf16) : IVec S8192x1024 1 × IVec S2816x1024 1 × IVec S8192x2816 1 :=
  let main_v0 : FVec F S8192x1024 .f32 := (extf .f32 · bitsLt_bf16_f32) main_arg0
  let main_v1 : FVec F S8192x1024 .f32 := subf main_v0 main_v0
  let main_cst : FVec F S_ .f32 := constant S_ .f32 0x00000000#32
  let main_v2 : FVec F S8192x1024 .f32 := broadcastInDim S8192x1024 ![] bcast_S_S8192x1024 main_cst
  let main_v3 : IVec S8192x1024 1 := cmpf .oeq main_v1 main_v2
  let main_v4 : FVec F S2816x1024 .f32 := (extf .f32 · bitsLt_bf16_f32) main_arg1
  let main_v5 : FVec F S2816x1024 .f32 := subf main_v4 main_v4
  let main_cst_0 : FVec F S_ .f32 := constant S_ .f32 0x00000000#32
  let main_v6 : FVec F S2816x1024 .f32 := broadcastInDim S2816x1024 ![] bcast_S_S2816x1024 main_cst_0
  let main_v7 : IVec S2816x1024 1 := cmpf .oeq main_v5 main_v6
  let main_v8 : FVec F S1x8192x2816 .bf16 := (extractStridedSlice S1x8192x2816 ![1, 0, 0] · slices_S2x8192x2816_S1x8192x2816_1_0_0) main_arg2
  let main_v9 : FVec F S8192x2816 .bf16 := shapeCast S8192x2816 main_v8 shapeCasts_S1x8192x2816_S8192x2816
  let main_v10 : FVec F S8192x2816 .f32 := (extf .f32 · bitsLt_bf16_f32) main_v9
  let main_v11 : FVec F S8192x2816 .f32 := subf main_v10 main_v10
  let main_cst_1 : FVec F S_ .f32 := constant S_ .f32 0x00000000#32
  let main_v12 : FVec F S8192x2816 .f32 := broadcastInDim S8192x2816 ![] bcast_S_S8192x2816 main_cst_1
  let main_v13 : IVec S8192x2816 1 := cmpf .oeq main_v11 main_v12
  (main_v3, main_v7, main_v13)
-- ==== Kernel.lean ====
abbrev S8192x1024 : Shape := ⟨2, ![8192, 1024]⟩
abbrev S2816x1024 : Shape := ⟨2, ![2816, 1024]⟩
abbrev S2x8192x2816 : Shape := ⟨3, ![2, 8192, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S1x8192x2816, .bf16⟩
  | .hbm, ⟨4, _⟩ => ⟨S8192x2816, .bf16⟩
  | .hbm, ⟨5, _⟩ => ⟨S8192x2816, .f32⟩
  | .hbm, ⟨6, _⟩ => ⟨S1x8192x2816, .bf16⟩
  | .hbm, ⟨7, _⟩ => ⟨S8192x2816, .bf16⟩
  | .hbm, ⟨8, _⟩ => ⟨S8192x2816, .f32⟩
  | .hbm, ⟨9, _⟩ => ⟨S2816x1024, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S1x8192x2816, .f32⟩
  | .hbm, ⟨34, _⟩ => ⟨S1x8192x2816, .f32⟩
  | .hbm, ⟨35, _⟩ => ⟨S2x8192x2816, .f32⟩
  | .hbm, ⟨36, _⟩ => ⟨S2x8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x8192x2816 : Shape := ⟨3, ![2, 8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩
abbrev S8192x2816 : Shape := ⟨2, ![8192, 2816]⟩
abbrev S1x8192x2816 : Shape := ⟨3, ![1, 8192, 2816]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S1024x5632, .f32⟩
  | .hbm, ⟨3, _⟩ => ⟨S_, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S1x8192x2816, .bf16⟩
  | .hbm, ⟨9, _⟩ => ⟨S8192x2816, .bf16⟩
  | .hbm, ⟨10, _⟩ => ⟨S8192x2816, .f32⟩
  | .hbm, ⟨11, _⟩ => ⟨S1x8192x2816, .bf16⟩
  | .hbm, ⟨12, _⟩ => ⟨S8192x2816, .bf16⟩
  | .hbm, ⟨13, _⟩ => ⟨S8192x2816, .f32⟩
  | .hbm, ⟨14, _⟩ => ⟨S8192x5632, .f32⟩
  | .hbm, ⟨15, _⟩ => ⟨S8192x1024, .f32⟩
  | .hbm, ⟨16, _⟩ => ⟨S8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S1x8192x2816, .bf16⟩
  | .hbm, ⟨9, _⟩ => ⟨S8192x2816, .bf16⟩
  | .hbm, ⟨10, _⟩ => ⟨S8192x2816, .f32⟩
  | .hbm, ⟨11, _⟩ => ⟨S1x8192x2816, .bf16⟩
  | .hbm, ⟨12, _⟩ => ⟨S8192x2816, .bf16⟩
  | .hbm, ⟨13, _⟩ => ⟨S8192x2816, .f32⟩
  | .hbm, ⟨14, _⟩ => ⟨S8192x5632, .f32⟩
  | .hbm, ⟨15, _⟩ => ⟨S5632x1024, .f32⟩
  | .hbm, ⟨16, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S9216x1024 : Shape := ⟨2, ![9216, 1024]⟩
abbrev S2816x1024 : Shape := ⟨2, ![2816, 1024]⟩
abbrev S2x9216x2816 : Shape := ⟨3, ![2, 9216, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S2x9216x2816, .bf16⟩
  | .hbm, ⟨3, _⟩ => ⟨S2x9216x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S9216x1024 : Shape := ⟨2, ![9216, 1024]⟩
abbrev S2816x1024 : Shape := ⟨2, ![2816, 1024]⟩
abbrev S2x9216x2816 : Shape := ⟨3, ![2, 9216, 2816]⟩
abbrev S1x9216x2816 : Shape := ⟨3, ![1, 9216, 2816]⟩
abbrev S9216x2816 : Shape := ⟨2, ![9216, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S2x9216x2816, .bf16⟩
  | .hbm, ⟨3, _⟩ => ⟨S1x9216x2816, .bf16⟩
  | .hbm, ⟨4, _⟩ => ⟨S9216x2816, .bf16⟩
  | .hbm, ⟨5, _⟩ => ⟨S9216x2816, .f32⟩
  | .hbm, ⟨6, _⟩ => ⟨S1x9216x2816, .bf16⟩
  | .hbm, ⟨7, _⟩ => ⟨S9216x2816, .bf16⟩
  | .hbm, ⟨8, _⟩ => ⟨S9216x2816, .f32⟩
  | .hbm, ⟨9, _⟩ => ⟨S2816x1024, .f32⟩
  | .hbm, ⟨10, _⟩ => ⟨S9216x2816, .f32⟩
  | .hbm, ⟨11, _⟩ => ⟨S9216x2816, .f32⟩
  | .hbm, ⟨12, _⟩ => ⟨S_, .f32⟩
  | .hbm, ⟨13, _⟩ => ⟨S9216x2816, .f32⟩
  | .hbm, ⟨14, _⟩ => ⟨S9216x2816, .f32⟩
  | .hbm, ⟨15, _⟩ => ⟨S_, .f32⟩
  | .hbm, ⟨16, _⟩ => ⟨S9216x2816, .f32⟩
  | .hbm, ⟨17, _⟩ => ⟨S9216x2816, .f32⟩
  | .hbm, ⟨18, _⟩ => ⟨S_, .f32⟩
  | .hbm, ⟨19, _⟩ => ⟨S9216x2816, .f32⟩
  | .hbm, ⟨20, _⟩ => ⟨S9216x2816, .f32⟩
  | .hbm, ⟨21, _⟩ => ⟨S9216x2816, .f32⟩
  | .hbm, ⟨22, _⟩ => ⟨S9216x2816, .f32⟩
  | .hbm, ⟨23, _⟩ => ⟨S9216x2816, .f32⟩
  | .hbm, ⟨24, _⟩ => ⟨S9216x1024, .f32⟩
  | .hbm, ⟨25, _⟩ => ⟨S9216x1024, .f32⟩
  | .hbm, ⟨26, _⟩ => ⟨S9216x2816, .f32⟩
  | .hbm, ⟨27, _⟩ => ⟨S9216x2816, .f32⟩
  | .hbm, ⟨28, _⟩ => ⟨S9216x2816, .f32⟩
  | .hbm, ⟨29, _⟩ => ⟨S9216x2816, .f32⟩
  | .hbm, ⟨30, _⟩ => ⟨S9216x2816, .f32⟩
  | .hbm, ⟨31, _⟩ => ⟨S9216x2816, .f32⟩
  | .hbm, ⟨32, _⟩ => ⟨S9216x2816, .f32⟩
  | .hbm, ⟨33, _⟩ => ⟨S1x9216x2816, .f32⟩
  | .hbm, ⟨34, _⟩ => ⟨S1x9216x2816, .f32⟩
  | .hbm, ⟨35, _⟩ => ⟨S2x9216x2816, .f32⟩
  | .hbm, ⟨36, _⟩ => ⟨S2x9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel6.lean ====
abbrev S9216x2816 : Shape := ⟨2, ![9216, 2816]⟩
abbrev S9216x1024 : Shape := ⟨2, ![9216, 1024]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .f32⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S9216x2816, .f32⟩
  | .hbm, ⟨3, _⟩ => ⟨S9216x1024, .f32⟩
  | .hbm, ⟨4, _⟩ => ⟨S_, .f32⟩
  | .hbm, ⟨5, _⟩ => ⟨S2816x1024, .f32⟩
  | .hbm, ⟨6, _⟩ => ⟨S9216x1024, .f32⟩
  | .hbm, ⟨7, _⟩ => ⟨S1024x2816, .f32⟩
  | .hbm, ⟨8, _⟩ => ⟨S2816x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S9216x1024 : Shape := ⟨2, ![9216, 1024]⟩
abbrev S9216x7296 : Shape := ⟨2, ![9216, 7296]⟩
abbrev S1024x7296 : Shape := ⟨2, ![1024, 7296]⟩
abbrev S1536x512 : Shape := ⟨2, ![1536, 512]⟩
abbrev S1536x2432 : Shape := ⟨2, ![1536, 2432]⟩
abbrev S512x2432 : Shape := ⟨2, ![512, 2432]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x7296, .bf16⟩
  | .hbm, ⟨2, _⟩ => ⟨S1024x7296, .f32⟩
  | .local _ .vmem, ⟨0, _⟩ => ⟨S1536x512, .bf16⟩
  | .local _ .vmem, ⟨1, _⟩ => ⟨S1536x512, .bf16⟩
  | .local _ .vmem, ⟨2, _⟩ => ⟨S1536x2432, .bf16⟩
  | .local _ .vmem, ⟨3, _⟩ => ⟨S1536x2432, .bf16⟩
  | .local _ .vmem, ⟨4, _⟩ => ⟨S512x2432, .f32⟩
  | .local _ .vmem, ⟨5, _⟩ => ⟨S512x2432, .f32⟩
  | .local _ .vmem, ⟨6, _⟩ => ⟨S512x2432, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S9216x1024 : Shape := ⟨2, ![9216, 1024]⟩
abbrev S9216x7296 : Shape := ⟨2, ![9216, 7296]⟩
abbrev S_ : Shape := ⟨0, ![]⟩
abbrev S1024x7296 : Shape := ⟨2, ![1024, 7296]⟩
abbrev S7296x1024 : Shape := ⟨2, ![7296, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x7296, .bf16⟩
  | .hbm, ⟨2, _⟩ => ⟨S9216x1024, .f32⟩
  | .hbm, ⟨3, _⟩ => ⟨S9216x7296, .f32⟩
  | .hbm, ⟨4, _⟩ => ⟨S_, .f32⟩
  | .hbm, ⟨5, _⟩ => ⟨S1024x7296, .f32⟩
  | .hbm, ⟨6, _⟩ => ⟨S9216x7296, .f32⟩
  | .hbm, ⟨7, _⟩ => ⟨S7296x1024, .f32⟩
  | .hbm, ⟨8, _⟩ => ⟨S1024x7296, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x5632 : Shape := ⟨2, ![1024, 5632]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S2x8192x2816, .bf16⟩
  | .hbm, ⟨3, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S2x8192x2816, .bf16⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel10.lean ====
abbrev S9216x7296 : Shape := ⟨2, ![9216, 7296]⟩
abbrev S8192x1024 : Shape := ⟨2, ![8192, 1024]⟩
abbrev S1024x1024 : Shape := ⟨2, ![1024, 1024]⟩

abbrev nBuf : Space → Nat
  | .hbm => 9
  | .vmem => 19
  | .smem => 0
  | _ => 0

abbrev bufTy : (tb : Table) → Fin (tcTables nBuf tb) → BufTy
  | .hbm, ⟨0, _⟩ => ⟨S9216x7296, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | _, _ => ⟨S9216x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S9216x7296 : Shape := ⟨2, ![9216, 7296]⟩
abbrev S8192x1024 : Shape := ⟨2, ![8192, 1024]⟩
abbrev S1024x1024 : Shape := ⟨2, ![1024, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S9216x7296, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x1024, .bf16⟩
  | .hbm, ⟨50, _⟩ => ⟨S8192x1024, .bf16⟩
  | .hbm, ⟨51, _⟩ => ⟨S8192x1024, .bf16⟩
  | _, _ => ⟨S9216x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S8192x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S1024x1024, .f32⟩
  | .hbm, ⟨43, _⟩ => ⟨S8192x1024, .f32⟩
  | .hbm, ⟨44, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel12.lean ====
abbrev S8192x1024 : Shape := ⟨2, ![8192, 1024]⟩
abbrev S9216x7296 : Shape := ⟨2, ![9216, 7296]⟩
abbrev S1x1024 : Shape := ⟨2, ![1, 1024]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S9216x7296, .bf16⟩
  | .hbm, ⟨3, _⟩ => ⟨S1x1024, .f32⟩
  | .hbm, ⟨4, _⟩ => ⟨S1024x1024, .bf16⟩
  | .hbm, ⟨5, _⟩ => ⟨S8192x1024, .bf16⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S8192x1024 : Shape := ⟨2, ![8192, 1024]⟩
abbrev S9216x7296 : Shape := ⟨2, ![9216, 7296]⟩
abbrev S1x1024 : Shape := ⟨2, ![1, 1024]⟩
abbrev S1024x1024 : Shape := ⟨2, ![1024, 1024]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S9216x7296, .bf16⟩
  | .hbm, ⟨3, _⟩ => ⟨S1x1024, .f32⟩
  | .hbm, ⟨4, _⟩ => ⟨S1024x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x4x256, .f32⟩
  | .hbm, ⟨11, _⟩ => ⟨S8192x4x256, .f32⟩
  | .hbm, ⟨12, _⟩ => ⟨S_, .f32⟩
  | .hbm, ⟨13, _⟩ => ⟨S8192x4, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1, .f32⟩
  | .hbm, ⟨22, _⟩ => ⟨S8192x4x256, .f32⟩
  | .hbm, ⟨23, _⟩ => ⟨S8192x4x256, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S1024x1024, .f32⟩
  | .hbm, ⟨39, _⟩ => ⟨S8192x1024, .f32⟩
  | .hbm, ⟨40, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel13.lean ====
abbrev S9216x7296 : Shape := ⟨2, ![9216, 7296]⟩
abbrev S8192x1024 : Shape := ⟨2, ![8192, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S9216x7296, .bf16⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S8192x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S9216x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S9216x7296 : Shape := ⟨2, ![9216, 7296]⟩
abbrev S8192x1024 : Shape := ⟨2, ![8192, 1024]⟩
abbrev S1024x1024 : Shape := ⟨2, ![1024, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S9216x7296, .bf16⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S1024x1024, .f32⟩
  | .hbm, ⟨31, _⟩ => ⟨S8192x1024, .f32⟩
  | _, _ => ⟨S9216x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel14.lean ====
abbrev S4x2048x1024 : Shape := ⟨3, ![4, 2048, 1024]⟩
abbrev S4x256x1024 : Shape := ⟨3, ![4, 256, 1024]⟩
abbrev S9216x2816 : Shape := ⟨2, ![9216, 2816]⟩
abbrev S5x1x1024 : Shape := ⟨3, ![5, 1, 1024]⟩
abbrev S1x1024 : Shape := ⟨2, ![1, 1024]⟩
abbrev S2816x1024 : Shape := ⟨2, ![2816, 1024]⟩
abbrev S8192x1024 : Shape := ⟨2, ![8192, 1024]⟩
abbrev S1024x1024 : Shape := ⟨2, ![1024, 1024]⟩
abbrev S9216x1024 : Shape := ⟨2, ![9216, 1024]⟩
abbrev S512x1024 : Shape := ⟨2, ![512, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S4x256x1024, .f32⟩
  | .hbm, ⟨2, _⟩ => ⟨S9216x2816, .bf16⟩
  | .hbm, ⟨3, _⟩ => ⟨S5x1x1024, .f32⟩
  | .hbm, ⟨4, _⟩ => ⟨S5x1x1024, .f32⟩
  | .hbm, ⟨5, _⟩ => ⟨S5x1x1024, .f32⟩
  | .hbm, ⟨6, _⟩ => ⟨S1x1024, .f32⟩
  | .hbm, ⟨7, _⟩ => ⟨S2816x1024, .bf16⟩
  | .hbm, ⟨8, _⟩ => ⟨S8192x1024, .f32⟩
  | .hbm, ⟨9, _⟩ => ⟨S1024x1024, .f32⟩
  | .hbm, ⟨10, _⟩ => ⟨S9216x1024, .f32⟩
  | .hbm, ⟨11, _⟩ => ⟨S9216x1024, .bf16⟩
  | .hbm, ⟨12, _⟩ => ⟨S9216x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S2816x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c0_i32_7 : BitVec 32 := 0#32
  ![v17.toNat, c0_i32_5.toNat, c0_i32_6.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c0_i32_7 : BitVec 32 := 0#32
  ![v17.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S4x2048x1024 : Shape := ⟨3, ![4, 2048, 1024]⟩
abbrev S4x256x1024 : Shape := ⟨3, ![4, 256, 1024]⟩
abbrev S9216x2816 : Shape := ⟨2, ![9216, 2816]⟩
abbrev S5x1x1024 : Shape := ⟨3, ![5, 1, 1024]⟩
abbrev S1x1024 : Shape := ⟨2, ![1, 1024]⟩
abbrev S2816x1024 : Shape := ⟨2, ![2816, 1024]⟩
abbrev S8192x2816 : Shape := ⟨2, ![8192, 2816]⟩
abbrev S8192x1024 : Shape := ⟨2, ![8192, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x2816 : Shape := ⟨2, ![1024, 2816]⟩
abbrev S1024x1024 : Shape := ⟨2, ![1024, 1024]⟩
abbrev S4x256 : Shape := ⟨2, ![4, 256]⟩
abbrev S4x256x1 : Shape := ⟨3, ![4, 256, 1]⟩
abbrev S9216x1024 : Shape := ⟨2, ![9216, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x256x1024, .f32⟩
  | .hbm, ⟨2, _⟩ => ⟨S9216x2816, .bf16⟩
  | .hbm, ⟨3, _⟩ => ⟨S5x1x1024, .f32⟩
  | .hbm, ⟨4, _⟩ => ⟨S5x1x1024, .f32⟩
  | .hbm, ⟨5, _⟩ => ⟨S5x1x1024, .f32⟩
  | .hbm, ⟨6, _⟩ => ⟨S1x1024, .f32⟩
  | .hbm, ⟨7, _⟩ => ⟨S2816x1024, .bf16⟩
  | .hbm, ⟨8, _⟩ => ⟨S9216x2816, .f32⟩
  | .hbm, ⟨9, _⟩ => ⟨S2816x1024, .f32⟩
  | .hbm, ⟨10, _⟩ => ⟨S8192x2816, .f32⟩
  | .hbm, ⟨11, _⟩ => ⟨S8192x1024, .f32⟩
  | .hbm, ⟨12, _⟩ => ⟨S4x2048x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S_, .f32⟩
  | .hbm, ⟨17, _⟩ => ⟨S4x1x1024, .f32⟩
  | .hbm, ⟨18, _⟩ => ⟨S4x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S1024x2816, .f32⟩
  | .hbm, ⟨46, _⟩ => ⟨S1024x1024, .f32⟩
  | .hbm, ⟨47, _⟩ => ⟨S4x256x1024, .f32⟩
  | .hbm, ⟨48, _⟩ => ⟨S1x1x1024, .f32⟩
  | .hbm, ⟨49, _⟩ => ⟨S1x1024, .f32⟩
  | .hbm, ⟨50, _⟩ => ⟨S1x1x1024, .f32⟩
  | .hbm, ⟨51, _⟩ => ⟨S1x1024, .f32⟩
  | .hbm, ⟨52, _⟩ => ⟨S1x1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S1x1x1024, .f32⟩
  | .hbm, ⟨58, _⟩ => ⟨S4x256x1024, .f32⟩
  | .hbm, ⟨59, _⟩ => ⟨S4x256x1024, .f32⟩
  | .hbm, ⟨60, _⟩ => ⟨S4x256x1024, .f32⟩
  | .hbm, ⟨61, _⟩ => ⟨S4x256x1024, .f32⟩
  | .hbm, ⟨62, _⟩ => ⟨S_, .f32⟩
  | .hbm, ⟨63, _⟩ => ⟨S4x256, .f32⟩
  | .hbm, ⟨64, _⟩ => ⟨S4x256x1, .f32⟩
  | .hbm, ⟨65, _⟩ => ⟨S_, .f32⟩
  | .hbm, ⟨66, _⟩ => ⟨S4x256x1, .f32⟩
  | .hbm, ⟨67, _⟩ => ⟨S4x256x1, .f32⟩
  | .hbm, ⟨68, _⟩ => ⟨S_, .f32⟩
  | .hbm, ⟨69, _⟩ => ⟨S4x256x1, .f32⟩
  | .hbm, ⟨70, _⟩ => ⟨S4x256x1, .f32⟩
  | .hbm, ⟨71, _⟩ => ⟨S4x256x1, .f32⟩
  | .hbm, ⟨72, _⟩ => ⟨S4x256x1024, .f32⟩
  | .hbm, ⟨73, _⟩ => ⟨S4x256x1024, .f32⟩
  | .hbm, ⟨74, _⟩ => ⟨S1x1x1024, .f32⟩
  | .hbm, ⟨75, _⟩ => ⟨S4x256x1024, .f32⟩
  | .hbm, ⟨76, _⟩ => ⟨S4x256x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S1x1x1024, .f32⟩
  | .hbm, ⟨81, _⟩ => ⟨S4x256x1024, .f32⟩
  | .hbm, ⟨82, _⟩ => ⟨S4x256x1024, .f32⟩
  | .hbm, ⟨83, _⟩ => ⟨S1x1x1024, .f32⟩
  | .hbm, ⟨84, _⟩ => ⟨S4x256x1024, .f32⟩
  | .hbm, ⟨85, _⟩ => ⟨S4x256x1024, .f32⟩
  | .hbm, ⟨86, _⟩ => ⟨S8192x1024, .f32⟩
  | .hbm, ⟨87, _⟩ => ⟨S1024x1024, .f32⟩
  | .hbm, ⟨88, _⟩ => ⟨S9216x1024, .f32⟩
  | .hbm, ⟨89, _⟩ => ⟨S8192x1024, .f32⟩
  | .hbm, ⟨90, _⟩ => ⟨S1024x1024, .f32⟩
  | .hbm, ⟨91, _⟩ => ⟨S9216x1024, .f32⟩
  | .hbm, ⟨92, _⟩ => ⟨S8192x1024, .f32⟩
  | .hbm, ⟨93, _⟩ => ⟨S1024x1024, .f32⟩
  | .hbm, ⟨94, _⟩ => ⟨S9216x1024, .f32⟩
  | .hbm, ⟨95, _⟩ => ⟨S9216x1024, .bf16⟩
  | .hbm, ⟨96, _⟩ => ⟨S9216x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Kernel15.lean ====
abbrev S352x1024 : Shape := ⟨2, ![352, 1024]⟩
abbrev S8x352x1024 : Shape := ⟨3, ![8, 352, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S8x352x1024, .bf16⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S352x1024 : Shape := ⟨2, ![352, 1024]⟩
abbrev S8x352x1024 : Shape := ⟨3, ![8, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S8x352x1024, .bf16⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S1024x704 : Shape := ⟨2, ![1024, 704]⟩
abbrev S8x1024x704 : Shape := ⟨3, ![8, 1024, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S8x1024x704, .bf16⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S1024x704 : Shape := ⟨2, ![1024, 704]⟩
abbrev S8x1024x704 : Shape := ⟨3, ![8, 1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S8x1024x704, .bf16⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S1024x1152 : Shape := ⟨2, ![1024, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S1024x1152 : Shape := ⟨2, ![1024, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S_, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S1024x1152, .f32⟩
  | .hbm, ⟨11, _⟩ => ⟨S_, .f32⟩
  | .hbm, ⟨12, _⟩ => ⟨S1024x1152, .f32⟩
  | .hbm, ⟨13, _⟩ => ⟨S1024x1152, .f32⟩
  | .hbm, ⟨14, _⟩ => ⟨S1024x1152, .f32⟩
  | .hbm, ⟨15, _⟩ => ⟨S_, .f32⟩
  | .hbm, ⟨16, _⟩ => ⟨S1024x1152, .f32⟩
  | .hbm, ⟨17, _⟩ => ⟨S1024x1152, .f32⟩
  | .hbm, ⟨18, _⟩ => ⟨S1024x1152, .f32⟩
  | .hbm, ⟨19, _⟩ => ⟨S_, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S1024x1152, .f32⟩
  | .hbm, ⟨26, _⟩ => ⟨S_, .f32⟩
  | .hbm, ⟨27, _⟩ => ⟨S1024x1152, .f32⟩
  | .hbm, ⟨28, _⟩ => ⟨S1024x1152, .f32⟩
  | .hbm, ⟨29, _⟩ => ⟨S1024x1152, .f32⟩
  | .hbm, ⟨30, _⟩ => ⟨S_, .f32⟩
  | .hbm, ⟨31, _⟩ => ⟨S1024x1152, .f32⟩
  | .hbm, ⟨32, _⟩ => ⟨S1024x1152, .f32⟩
  | .hbm, ⟨33, _⟩ => ⟨S1024x1152, .f32⟩
  | .hbm, ⟨34, _⟩ => ⟨S_, .f32⟩
  | .hbm, ⟨35, _⟩ => ⟨S1024x1152, .f32⟩
  | .hbm, ⟨36, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S8192x1024 : Shape := ⟨2, ![8192, 1024]⟩
abbrev S8192x2816 : Shape := ⟨2, ![8192, 2816]⟩
abbrev S4x2048x1024 : Shape := ⟨3, ![4, 2048, 1024]⟩
abbrev S4x1x1024 : Shape := ⟨3, ![4, 1, 1024]⟩
abbrev S1x1024 : Shape := ⟨2, ![1, 1024]⟩
abbrev S2816x1024 : Shape := ⟨2, ![2816, 1024]⟩
abbrev S1x128 : Shape := ⟨2, ![1, 128]⟩
abbrev S512x1024 : Shape := ⟨2, ![512, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S4x2048x1024, .f32⟩
  | .hbm, ⟨3, _⟩ => ⟨S4x1x1024, .f32⟩
  | .hbm, ⟨4, _⟩ => ⟨S1x1024, .f32⟩
  | .hbm, ⟨5, _⟩ => ⟨S2816x1024, .bf16⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S4x1x1024, .f32⟩
  | .hbm, ⟨10, _⟩ => ⟨S1x1024, .f32⟩
  | .hbm, ⟨11, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v81 : BitVec 1 := Scalar.cmpi .eq c4_i32 c0_i32
  let c1_i32 : BitVec 32 := 1#32
  let v82 : BitVec 32 := Scalar.select v81 c1_i32 c4_i32
  let v83 : BitVec 32 := Scalar.remsi arg0 v82
  let c0_i32_36 : BitVec 32 := 0#32
  let v85 : BitVec 1 := Scalar.cmpi .slt v83 c0_i32_36
  let c0_i32_37 : BitVec 32 := 0#32
  let v86 : BitVec 1 := Scalar.cmpi .slt v82 c0_i32_37
  let v87 : BitVec 1 := Scalar.xori v85 v86
  let c0_i32_35 : BitVec 32 := 0#32
  let v84 : BitVec 1 := Scalar.cmpi .ne v83 c0_i32_35
  let v88 : BitVec 1 := Scalar.andi v87 v84
  let v89 : BitVec 32 := Scalar.addi v83 v82
  let v90 : BitVec 32 := Scalar.select v88 v89 v83
  let c0_i32_38 : BitVec 32 := 0#32
  let v91 : BitVec 1 := Scalar.cmpi .eq v90 c0_i32_38
  let c16_i32 : BitVec 32 := 16#32
  let v92 : BitVec 1 := Scalar.cmpi .sle arg0 c16_i32
  let v93 : BitVec 1 := Scalar.andi v91 v92
  let v94 : BitVec 32 := Scalar.extui v93
  let c0_i32_39 : BitVec 32 := 0#32
  let v95 : BitVec 1 := Scalar.cmpi .ne v94 c0_i32_39
  v95

def k0_cond2 (i : grid0.Coords) : BitVec 1 :=
  let arg0 : BitVec 32 := BitVec.ofNat 32 (i 0).val
  let c4_i32 : BitVec 32 := 4#32
  let c0_i32 : BitVec 32 := 0#32
  let v81 : BitVec 1 := Scalar.cmpi .eq c4_i32 c0_i32
  let c1_i32 : BitVec 32 := 1#32
  let v82 : BitVec 32 := Scalar.select v81 c1_i32 c4_i32
  let v83 : BitVec 32 := Scalar.remsi arg0 v82
  let c0_i32_36 : BitVec 32 := 0#32
  let v85 : BitVec 1 := Scalar.cmpi .slt v83 c0_i32_36
  let c0_i32_37 : BitVec 32 := 0#32
  let v86 : BitVec 1 := Scalar.cmpi .slt v82 c0_i32_37
  let v87 : BitVec 1 := Scalar.xori v85 v86
  let c0_i32_35 : BitVec 32 := 0#32
  let v84 : BitVec 1 := Scalar.cmpi .ne v83 c0_i32_35
  let v88 : BitVec 1 := Scalar.andi v87 v84
  let v89 : BitVec 32 := Scalar.addi v83 v82
  let v90 : BitVec 32 := Scalar.select v88 v89 v83
  let c0_i32_38 : BitVec 32 := 0#32
  let v91 : BitVec 1 := Scalar.cmpi .eq v90 c0_i32_38
  let c16_i32 : BitVec 32 := 16#32
  let v92 : BitVec 1 := Scalar.cmpi .sle arg0 c16_i32
  let v93 : BitVec 1 := Scalar.andi v91 v92
  let v_true : BitVec 1 := 1#1
  let v96 : BitVec 1 := Scalar.xori v93 v_true
  let v97 : BitVec 32 := Scalar.extui v96
  let c0_i32_40 : BitVec 32 := 0#32
  let v98 : BitVec 1 := Scalar.cmpi .ne v97 c0_i32_40
  v98

def k0_cond3 (i : grid0.Coords) : BitVec 1 :=
  let arg0 : BitVec 32 := BitVec.ofNat 32 (i 0).val
  let c0_i32_41 : BitVec 32 := 0#32
  let v99 : BitVec 1 := Scalar.cmpi .eq arg0 c0_i32_41
  let v100 : BitVec 32 := Scalar.extui v99
  let c0_i32_42 : BitVec 32 := 0#32
  let v101 : BitVec 1 := Scalar.cmpi .ne v100 c0_i32_42
  v101

def k0_cond4 (i : grid0.Coords) : BitVec 1 :=
  let arg0 : BitVec 32 := BitVec.ofNat 32 (i 0).val
  let c0_i32_43 : BitVec 32 := 0#32
  let v102 : BitVec 1 := Scalar.cmpi .sgt arg0 c0_i32_43
  let v103 : BitVec 32 := Scalar.extui v102
  let c0_i32_44 : BitVec 32 := 0#32
  let v104 : BitVec 1 := Scalar.cmpi .ne v103 c0_i32_44
  v104

def k0_cond5 (i : grid0.Coords) : BitVec 1 :=
  let arg0 : BitVec 32 := BitVec.ofNat 32 (i 0).val
  let c0_i32_45 : BitVec 32 := 0#32
  let v105 : BitVec 1 := Scalar.cmpi .eq arg0 c0_i32_45
  let v106 : BitVec 32 := Scalar.extui v105
  let c0_i32_46 : BitVec 32 := 0#32
  let v107 : BitVec 1 := Scalar.cmpi .ne v106 c0_i32_46
  v107

def k0_cond6 (i : grid0.Coords) : BitVec 1 :=
  let arg0 : BitVec 32 := BitVec.ofNat 32 (i 0).val
  let c0_i32_47 : BitVec 32 := 0#32
  let v108 : BitVec 1 := Scalar.cmpi .sgt arg0 c0_i32_47
  let v109 : BitVec 32 := Scalar.extui v108
  let c0_i32_48 : BitVec 32 := 0#32
  let v110 : BitVec 1 := Scalar.cmpi .ne v109 c0_i32_48
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference19Ideal.lean ====
abbrev S8192x1024 : Shape := ⟨2, ![8192, 1024]⟩
abbrev S8192x2816 : Shape := ⟨2, ![8192, 2816]⟩
abbrev S4x2048x1024 : Shape := ⟨3, ![4, 2048, 1024]⟩
abbrev S4x1x1024 : Shape := ⟨3, ![4, 1, 1024]⟩
abbrev S1x1024 : Shape := ⟨2, ![1, 1024]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024 : Shape := ⟨1, ![1024]⟩
abbrev S4x1024 : Shape := ⟨2, ![4, 1024]⟩
abbrev S1x1 : Shape := ⟨2, ![1, 1]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S4x2048x1024, .f32⟩
  | .hbm, ⟨3, _⟩ => ⟨S4x1x1024, .f32⟩
  | .hbm, ⟨4, _⟩ => ⟨S1x1024, .f32⟩
  | .hbm, ⟨5, _⟩ => ⟨S2816x1024, .bf16⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S4x2048, .f32⟩
  | .hbm, ⟨44, _⟩ => ⟨S_, .f32⟩
  | .hbm, ⟨45, _⟩ => ⟨S4x2048, .f32⟩
  | .hbm, ⟨46, _⟩ => ⟨S4x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4x2048, .f32⟩
  | .hbm, ⟨55, _⟩ => ⟨S_, .f32⟩
  | .hbm, ⟨56, _⟩ => ⟨S4x2048, .f32⟩
  | .hbm, ⟨57, _⟩ => ⟨S4x2048, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4x2048x1024, .f32⟩
  | .hbm, ⟨70, _⟩ => ⟨S_, .f32⟩
  | .hbm, ⟨71, _⟩ => ⟨S4x2048, .f32⟩
  | .hbm, ⟨72, _⟩ => ⟨S4x2048x1, .f32⟩
  | .hbm, ⟨73, _⟩ => ⟨S4x2048x1024, .f32⟩
  | .hbm, ⟨74, _⟩ => ⟨S4x2048x1024, .f32⟩
  | .hbm, ⟨75, _⟩ => ⟨S4x2048x1, .f32⟩
  | .hbm, ⟨76, _⟩ => ⟨S_, .f32⟩
  | .hbm, ⟨77, _⟩ => ⟨S4x2048x1, .f32⟩
  | .hbm, ⟨78, _⟩ => ⟨S4x2048x1, .f32⟩
  | .hbm, ⟨79, _⟩ => ⟨S_, .f32⟩
  | .hbm, ⟨80, _⟩ => ⟨S4x2048, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | .hbm, ⟨89, _⟩ => ⟨S_, .f32⟩
  | .hbm, ⟨90, _⟩ => ⟨S4x1024, .f32⟩
  | .hbm, ⟨91, _⟩ => ⟨S4x1x1024, .f32⟩
  | .hbm, ⟨92, _⟩ => ⟨S_, .f32⟩
  | .hbm, ⟨93, _⟩ => ⟨S4x1x1024, .f32⟩
  | .hbm, ⟨94, _⟩ => ⟨S4x1x1024, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S1x1, .f32⟩
  | .hbm, ⟨99, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_cst_9 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Kernel20.lean ====
abbrev S8x16x1024 : Shape := ⟨3, ![8, 16, 1024]⟩
abbrev S8x32x1024 : Shape := ⟨3, ![8, 32, 1024]⟩
abbrev S8x8x128 : Shape := ⟨3, ![8, 8, 128]⟩
abbrev S40x8x1152 : Shape := ⟨3, ![40, 8, 1152]⟩
abbrev S16x1024 : Shape := ⟨2, ![16, 1024]⟩
abbrev S32x1024 : Shape := ⟨2, ![32, 1024]⟩
abbrev S8x128 : Shape := ⟨2, ![8, 128]⟩
abbrev S8x1152 : Shape := ⟨2, ![8, 1152]⟩
abbrev S1x16x1024 : Shape := ⟨3, ![1, 16, 1024]⟩
abbrev S1x32x1024 : Shape := ⟨3, ![1, 32, 1024]⟩
abbrev S1x8x128 : Shape := ⟨3, ![1, 8, 128]⟩
abbrev S1x8x1152 : Shape := ⟨3, ![1, 8, 1152]⟩

abbrev nBuf : Space → Nat
  | .hbm => 10
  | .vmem => 10
  | .smem => 0
  | _ => 0

abbrev bufTy : (tb : Table) → Fin (tcTables nBuf tb) → BufTy
  | .hbm, ⟨0, _⟩ => ⟨S8x16x1024, .f32⟩
  | .hbm, ⟨1, _⟩ => ⟨S8x32x1024, .f32⟩
  | .hbm, ⟨2, _⟩ => ⟨S8x32x1024, .f32⟩
  | .hbm, ⟨3, _⟩ => ⟨S8x8x128, .f32⟩
  | .hbm, ⟨4, _⟩ => ⟨S40x8x1152, .f32⟩
  | .hbm, ⟨5, _⟩ => ⟨S16x1024, .f32⟩
  | .hbm, ⟨6, _⟩ => ⟨S32x1024, .f32⟩
  | .hbm, ⟨7, _⟩ => ⟨S32x1024, .f32⟩
  | .hbm, ⟨8, _⟩ => ⟨S8x128, .f32⟩
  | .hbm, ⟨9, _⟩ => ⟨S8x1152, .f32⟩
  | .local _ .vmem, ⟨0, _⟩ => ⟨S8x16x1024, .f32⟩
  | .local _ .vmem, ⟨1, _⟩ => ⟨S8x32x1024, .f32⟩
  | .local _ .vmem, ⟨2, _⟩ => ⟨S8x32x1024, .f32⟩
  | .local _ .vmem, ⟨3, _⟩ => ⟨S8x8x128, .f32⟩
  | .local _ .vmem, ⟨4, _⟩ => ⟨S40x8x1152, .f32⟩
  | .local _ .vmem, ⟨5, _⟩ => ⟨S16x1024, .f32⟩
  | .local _ .vmem, ⟨6, _⟩ => ⟨S32x1024, .f32⟩
  | .local _ .vmem, ⟨7, _⟩ => ⟨S32x1024, .f32⟩
  | .local _ .vmem, ⟨8, _⟩ => ⟨S8x128, .f32⟩
  | .local _ .vmem, ⟨9, _⟩ => ⟨S8x1152, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x8x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1152 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference20Ideal.lean ====
abbrev S8x16x1024 : Shape := ⟨3, ![8, 16, 1024]⟩
abbrev S8x32x1024 : Shape := ⟨3, ![8, 32, 1024]⟩
abbrev S8x8x128 : Shape := ⟨3, ![8, 8, 128]⟩
abbrev S40x8x1152 : Shape := ⟨3, ![40, 8, 1152]⟩
abbrev S_ : Shape := ⟨0, ![]⟩
abbrev S16x1024 : Shape := ⟨2, ![16, 1024]⟩
abbrev S32x1024 : Shape := ⟨2, ![32, 1024]⟩
abbrev S8x128 : Shape := ⟨2, ![8, 128]⟩
abbrev S8x1152 : Shape := ⟨2, ![8, 1152]⟩

abbrev nBuf : Space → Nat
  | .hbm => 15
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x32x1024, .f32⟩
  | .hbm, ⟨2, _⟩ => ⟨S8x32x1024, .f32⟩
  | .hbm, ⟨3, _⟩ => ⟨S8x8x128, .f32⟩
  | .hbm, ⟨4, _⟩ => ⟨S40x8x1152, .f32⟩
  | .hbm, ⟨5, _⟩ => ⟨S_, .f32⟩
  | .hbm, ⟨6, _⟩ => ⟨S16x1024, .f32⟩
  | .hbm, ⟨7, _⟩ => ⟨S_, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S_, .f32⟩
  | .hbm, ⟨12, _⟩ => ⟨S8x128, .f32⟩
  | .hbm, ⟨13, _⟩ => ⟨S_, .f32⟩
  | .hbm, ⟨14, _⟩ => ⟨S8x1152, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Proof.Scalars.lean ====
/- Facts about single extended reals that several of the value proofs use. -/
module

public import Idealize.ShloMosaic.PureOps.Ideal
public import Idealize.ShloMosaic.Lib.Pointwise

@[expose] public section

noncomputable section

namespace Cert.Proof.Scalars

open Idealize.ShloMosaic

/-- A value less itself is zero only where the value is a real number. -/
theorem exists_real_of_sub_self {x : EReal} (h : x - x = 0) : ∃ r : ℝ, x = (r : EReal) := by
  induction x with
  | bot => simp at h
  | top => simp at h
  | coe r => exact ⟨r, rfl⟩

/-- The comparison of `x - x` with the zero word came out true: `x` is a real number. -/
theorem exists_real_of_cmp {x : EReal} (h : Ideal.cmp .oeq (x - x) (Ideal.ofBits .f32 0x00000000#32) = 1#1) : ∃ r : ℝ, x = (r : EReal) := by
  refine exists_real_of_sub_self ?_
  have hz : Ideal.ofBits .f32 0x00000000#32 = 0 := Ideal.ofBits_zero_f32
  rw [hz] at h
  have h' : BitVec.ofBool (decide (x - x = 0)) = 1#1 := h
  by_contra hne
  rw [decide_eq_false hne] at h'
  exact absurd h' (by decide)

/-- A finite sum of products of real numbers is a real number. -/
theorem exists_real_sum {n : ℕ} {f g : Fin n → EReal} (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  simp only [ha, hb, ← EReal.coe_mul]
  exact (map_sum (⟨⟨((↑) : ℝ → EReal), EReal.coe_zero⟩, EReal.coe_add⟩ : ℝ →+ EReal) _ _).symm

/-- The gradient through `silu a` of a finite cotangent `x`: the factored form is the sum the chain rule gives. At an infinite `a` the
    sigmoid is 0 or 1 and both sides are that multiple of `x`. -/
theorem silu_grad {x : EReal} (hx : ∃ r : ℝ, x = (r : EReal)) (a : EReal) :
    x * Ideal.logistic a * (1 + a * (1 - Ideal.logistic a)) = x * Ideal.logistic a + a * x * (Ideal.logistic a * (1 - Ideal.logistic a)) := by
  obtain ⟨r, rfl⟩ := hx
  induction a with
  | bot => simp
  | top =>
    have h : (1 : EReal) - 1 = 0 := by rw [← EReal.coe_one, ← EReal.coe_sub, sub_self, EReal.coe_zero]
    simp [h]
  | coe a =>
    rw [Ideal.logistic_coe]
    norm_cast
    ring

end Cert.Proof.Scalars

end
-- ==== Proof.Ffn2DownDx.lean ====
/- The gradient of the second FFN's gated product: what the tiled kernel leaves in its output array, and that it is the chain rule's array. -/
module

public import proofs.«01_k».proof.Proof.Gen.KernelIdeal.Value
public import proofs.«01_k».proof.Proof.Gen.ReferenceIdeal.Run
public import proofs.«01_k».proof.Proof.Gen.Pre_ffn2_finite
public import proofs.«01_k».proof.Proof.Scalars
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.Ffn2DownDx

section Formula
open Cert.ReferenceIdeal Cert.ReferenceIdeal.Gen

/-- The cotangent of the hidden layer: the output's cotangent times the transposed weight. -/
abbrev hidden (df : FVec Ideal S8192x1024 .bf16) (w : FVec Ideal S2816x1024 .bf16) : FVec Ideal S8192x2816 .f32 :=
  Host.dotGeneral dot_S8192x1024_S2816x1024_S8192x2816_1_1_0_0_n_n none (extf .f32 df bitsLt_bf16_f32) (extf .f32 w bitsLt_bf16_f32)

/-- The gate half of the saved activations. -/
abbrev gate (gu : FVec Ideal S2x8192x2816 .bf16) : FVec Ideal S8192x2816 .f32 :=
  extf .f32 (shapeCast S8192x2816 (extractStridedSlice S1x8192x2816 ![0, 0, 0] gu slices_S2x8192x2816_S1x8192x2816_0_0_0) shapeCasts_S1x8192x2816_S8192x2816) bitsLt_bf16_f32

/-- The other half. -/
abbrev up (gu : FVec Ideal S2x8192x2816 .bf16) : FVec Ideal S8192x2816 .f32 :=
  extf .f32 (shapeCast S8192x2816 (extractStridedSlice S1x8192x2816 ![1, 0, 0] gu slices_S2x8192x2816_S1x8192x2816_1_0_0) shapeCasts_S1x8192x2816_S8192x2816) bitsLt_bf16_f32

abbrev one : FVec Ideal S8192x2816 .f32 := broadcastInDim S8192x2816 ![] bcast_S_S8192x2816 (constant S_ .f32 0x3F800000#32)

abbrev sigmoid (a : FVec Ideal S8192x2816 .f32) : FVec Ideal S8192x2816 .f32 := Host.divf one (addf one (Host.exp (Host.negf a)))

/-- Two halves laid one after the other. -/
abbrev stack (x y : FVec Ideal S8192x2816 .f32) : FVec Ideal S2x8192x2816 .bf16 :=
  truncf .bf16 (concatenate S2x8192x2816 0 [⟨S1x8192x2816, (broadcastInDim S1x8192x2816 ![1, 2] bcast_S8192x2816_S1x8192x2816_1_2 x)⟩, ⟨S1x8192x2816, (broadcastInDim S1x8192x2816 ![1, 2] bcast_S8192x2816_S1x8192x2816_1_2 y)⟩] concatenates_S1x8192x2816_S1x8192x2816_S2x8192x2816_d0) bitsLt_bf16_f32

/-- The factored gradient of `silu a * b`, whole array. -/
abbrev factored (df : FVec Ideal S8192x1024 .bf16) (w : FVec Ideal S2816x1024 .bf16) (gu : FVec Ideal S2x8192x2816 .bf16) : FVec Ideal S2x8192x2816 .bf16 :=
  stack (mulf (mulf (mulf (hidden df w) (up gu)) (sigmoid (gate gu))) (addf one (mulf (gate gu) (subf one (sigmoid (gate gu))))))
    (mulf (mulf (hidden df w) (gate gu)) (sigmoid (gate gu)))

/-- The chain rule's gradient, as the reference's operations compose. -/
abbrev chained (df : FVec Ideal S8192x1024 .bf16) (w : FVec Ideal S2816x1024 .bf16) (gu : FVec Ideal S2x8192x2816 .bf16) : FVec Ideal S2x8192x2816 .bf16 :=
  stack (addf (mulf (mulf (hidden df w) (up gu)) (sigmoid (gate gu)))
      (mulf (mulf (gate gu) (mulf (hidden df w) (up gu))) (mulf (sigmoid (gate gu)) (subf one (sigmoid (gate gu))))))
    (mulf (mulf (gate gu) (sigmoid (gate gu))) (hidden df w))

end Formula

section Kernel
open Cert.KernelIdeal Cert.KernelIdeal.Gen

variable (m : (ℓ : Loc nD τ sig) → Buf (Elt Ideal) ℓ)

theorem idx_val : ∀ t : Fin cfg0.N, win0_0.index t = ![t.val % 16, 0]
    ∧ win0_1.index t = ![t.val / 16, 0]
    ∧ win0_2.index t = ![0, t.val % 16, t.val / 16]
    ∧ win0_3.index t = ![0, t.val % 16, t.val / 16] :=
  (by decide +kernel : ∀ t : Fin grid0.N, _)

set_option maxHeartbeats 1600000 in
/-- One grid point's two stores are the factored gradient's block. -/
theorem point (c : Dev nD) (t : Fin cfg0.N) (y) :
    out0_3 (iblk m c 0 t) (iblk m c 1 t) (iblk m c 2 t) y
      = factored (m ((c : Thread nD τ).loc main_arg0)) (m ((c : Thread nD τ).loc main_arg1)) (m ((c : Thread nD τ).loc
        main_arg2)) (((cfg0.win 3).blk t).view.emb y) := by
  canon_tiles x h
  all_goals
    open_payloads
    pointwise [factored, stack, hidden, gate, up, sigmoid, one]
    simp only [Ideal.logistic]
    split
    all_goals
      rename_i hq
      blk_simp [idx_val t] at hq
      first
        | (exfalso; omega)
        | blk_point [iblk, V, idx_val t]

theorem final (c : Dev nD) : (dats m 0 c).arrAt 3 (cfgs 0).N = factored (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Kernel

section Agree
open Cert.ReferenceIdeal Cert.ReferenceIdeal.Gen

/-- Where the cotangent, the weight and the ungated half are finite, the two forms of the gradient are one array. -/
theorem factored_eq_chained (df : FVec Ideal S8192x1024 .bf16) (w : FVec Ideal S2816x1024 .bf16) (gu : FVec Ideal S2x8192x2816 .bf16)
    (h : Cert.Pre_ffn2_finite.fn df w gu = (fun _ => 1#1, fun _ => 1#1, fun _ => 1#1)) : factored df w gu = chained df w gu := by
  have h0 : ∀ i, ∃ r : ℝ, df i = (r : EReal) := fun i => Scalars.exists_real_of_cmp (congrFun (congrArg Prod.fst h) i)
  have h1 : ∀ i, ∃ r : ℝ, w i = (r : EReal) := fun i => Scalars.exists_real_of_cmp (congrFun (congrArg (·.2.1) h) i)
  have h2 : ∀ i, ∃ r : ℝ, up gu i = (r : EReal) := fun i => Scalars.exists_real_of_cmp (congrFun (congrArg (·.2.2) h) i)
  funext j
  idx_vars j
  have hup : up gu (ix2 j1 j2) = gu (ix3 1 j1 j2) := by pointwise [up]
  have hx : ∃ r : ℝ, (∑ x, df (ix2 j1 x) * w (ix2 j2 x)) * gu (ix3 1 j1 j2) = (r : EReal) := by
    obtain ⟨p, hp⟩ := Scalars.exists_real_sum (fun x => h0 (ix2 j1 x)) (fun x => h1 (ix2 j2 x))
    obtain ⟨q, hq⟩ := h2 (ix2 j1 j2)
    exact ⟨p * q, by rw [hp, ← hup, hq, EReal.coe_mul]⟩
  pointwise [factored, chained, stack, hidden, gate, up, sigmoid, one]
  split
  · exact Scalars.silu_grad hx _
  · rw [mul_assoc, mul_comm]

end Agree

section Claims

theorem reference_quiescent : quiescent_ReferenceIdeal := fun m g _ =>
  (θ_run Cert.ReferenceIdeal.defs _ _).mono (fun r h => ⟨fun c => (h c).2, sem_eq_zero_of_no_sems (by decide) r.2⟩) (Cert.ReferenceIdeal.Value.run m g)

theorem agrees : algebraic_KernelIdeal_ReferenceIdeal_pre_ffn2_finite := by
  pair_intro
  · run_from Cert.KernelIdeal.Gen.run_main _ _
  · run_from Cert.ReferenceIdeal.Value.run _ _
    have h := hpre c
    rw [(hagree c).2.2]
    refine Eq.trans ?_ (final m c).symm
    rw [factored_eq_chained _ _ _ (Prod.ext h.1 (Prod.ext h.2.1 h.2.2))]

end Claims

end Cert.Proof.Ffn2DownDx

end
-- ==== Proof.Ffn2DownDw.lean ====
/- The gradient of the second FFN's down projection: the array the tiled product leaves is the whole product's array. -/
module

public import proofs.«01_k».proof.Proof.Gen.Kernel2Ideal.Value
public import proofs.«01_k».proof.Proof.Gen.Reference2Ideal.Run
public import Idealize.ShloMosaic.Lib.Pipeline.ReadBack
public import Idealize.ShloMosaic.Lib.Pipeline.ValueKit
public import Idealize.ShloMosaic.Lib.Pointwise
public import proofs.«01_k».proof.Defs
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Ffn2DownDw

/-- The whole product: the hidden rows transposed times the cotangent. -/
abbrev product (u : FVec Ideal Cert.Reference2Ideal.S8192x2816 .bf16) (d : FVec Ideal Cert.Reference2Ideal.S8192x1024 .bf16) : FVec Ideal Cert.Reference2Ideal.S2816x1024 .f32 :=
  transpose Cert.Reference2Ideal.S2816x1024 [1, 0]
    (Host.dotGeneral Cert.Reference2Ideal.dot_S8192x1024_S8192x2816_S1024x2816_0_0_1_1_n_n none
      (extf .f32 d Cert.Reference2Ideal.Gen.bitsLt_bf16_f32) (extf .f32 u Cert.Reference2Ideal.Gen.bitsLt_bf16_f32))
    Cert.Reference2Ideal.Gen.transposes_S1024x2816_S2816x1024_1_0

section Kernel
open Cert.Kernel2Ideal Cert.Kernel2Ideal.Gen

variable (m : (ℓ : Loc nD τ sig) → Buf (Elt Ideal) ℓ)

theorem idx_val : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- One block's product, at an index. -/
theorem part_apply (x : FVec Ideal S2048x1408 .bf16) (y : FVec Ideal S2048x1024 .bf16) (j : S1408x1024.Idx) :
    k0_pay2 (F := Ideal) x y j = ∑ k : Fin 2048, (x (ix2 k (j 0)) * y (ix2 k (j 1)) : EReal) := by
  pointwise [k0_pay2, k0_pay1]

theorem product_apply (u : FVec Ideal Cert.Reference2Ideal.S8192x2816 .bf16) (d : FVec Ideal Cert.Reference2Ideal.S8192x1024 .bf16) (j : Cert.Reference2Ideal.S2816x1024.Idx) :
    (product u d j : EReal) = ∑ k : Fin 8192, (u (ix2 k (j 0)) * d (ix2 k (j 1)) : EReal) := by
  pointwise [product]
  exact Finset.sum_congr rfl fun _ _ => mul_comm _ _

theorem step_apply (x : FVec Ideal S2048x1408 .bf16) (y : FVec Ideal S2048x1024 .bf16) (a : FVec Ideal S1408x1024 .f32) (j : S1408x1024.Idx) :
    k0_pay3 x y a j = a j + k0_pay2 x y j := by
  pointwise [k0_pay3, k0_pay2, k0_pay1]

/-- The accumulator when a run of points ends: the sum of the run's parts. -/
theorem acc_apply (c : Dev nD) (t : Fin cfg0.N) (h : t.val % 4 = 4 - 1) (j : S1408x1024.Idx) :
    (outsAt0 m c t.val t.isLt).2 j
      = ∑ s : Fin 4, k0_pay2 (iblk m c 0 ⟨4 * (t.val / 4) + s.val, Pipeline.run_point_lt_of_flush t h s⟩)
          (iblk m c 1 ⟨4 * (t.val / 4) + s.val, Pipeline.run_point_lt_of_flush t h s⟩) j := by
  have hN : cfg0.N = 8 := N_0
  rw [Pipeline.eq_sum_fin_of_reset_step_apply_of_flush (fun n h => (outsAt0 m c n h).2) 4 (fun _ => (0 : EReal))
    (fun t j => k0_pay2 (iblk m c 0 t) (iblk m c 1 t) j)
    (fun t h j => by
      have := t.isLt
      rw [outsAt0_A m c t h (by omega) (by omega), zero_add]
      dsimp only
      frame_out)
    (fun t h j => by
      have := t.isLt
      by_cases h2 : t.val % 4 = 3
      · rw [outsAt0_C m c t h (by omega) h2]
        dsimp only
        frame_out
        rw [step_apply, read_unread_whole]
      · rw [outsAt0_B m c t h (by omega) h2]
        dsimp only
        frame_out
        rw [step_apply, read_unread_whole])
    t h j, zero_add]

/-- The output of the last point of a run is the accumulator. -/
theorem out_eq_acc (c : Dev nD) (t : Fin cfg0.N) (h : t.val % 4 = 3) :
    (outsAt0 m c t.val t.isLt).1 = (outsAt0 m c t.val t.isLt).2 := by
  rw [outsAt0_C m c t (by omega) (by omega) h]
  dsimp only
  frame_out

theorem point (c : Dev nD) (t : Fin cfg0.N) (h : t.val % 4 = 4 - 1) (y : S1408x1024.Idx) :
    (outsAt0 m c t.val t.isLt).1 y = product (m ((c : Thread nD τ).loc main_arg0)) (m ((c : Thread nD τ).loc main_arg1)) (((cfg0.win 2).blk t).view.emb y) := by
  rw [out_eq_acc m c t h, acc_apply m c t h, product_apply]
  simp only [part_apply]
  refine Fin.sum_mul_add_congr fun s k hl => ?_
  blk_point [iblk, V, idx_val t, idx_val ⟨_, Pipeline.run_point_lt_of_flush t h s⟩]

theorem final (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Kernel

section Claims

theorem reference_quiescent : quiescent_Reference2Ideal := fun m g _ =>
  (θ_run Cert.Reference2Ideal.defs _ _).mono (fun r h => ⟨fun c => (h c).2, sem_eq_zero_of_no_sems (by decide) r.2⟩) (Cert.Reference2Ideal.Value.run m g)

theorem agrees : algebraic_Kernel2Ideal_Reference2Ideal := by
  pair_intro
  · run_from Cert.Kernel2Ideal.Gen.run_main _ _
  · run_from Cert.Reference2Ideal.Value.run _ _
    exact (final m c).symm

end Claims

end Cert.Proof.Ffn2DownDw

end
-- ==== Proof.Ffn2UpDx.lean ====
/- The gradient of the second FFN's input: the array the tiled product leaves is the whole product's array. -/
module

public import proofs.«01_k».proof.Proof.Gen.Kernel3Ideal.Value
public import proofs.«01_k».proof.Proof.Gen.Reference3Ideal.Run
public import Idealize.ShloMosaic.Lib.Pipeline.ReadBack
public import Idealize.ShloMosaic.Lib.Pipeline.ValueKit
public import Idealize.ShloMosaic.Lib.Pointwise
public import proofs.«01_k».proof.Defs
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Ffn2UpDx

/-- The two halves of the cotangent side by side. -/
abbrev stack (g : FVec Ideal Cert.Reference3Ideal.S2x8192x2816 .bf16) : FVec Ideal Cert.Reference3Ideal.S8192x5632 .f32 :=
  concatenate Cert.Reference3Ideal.S8192x5632 1
    [⟨Cert.Reference3Ideal.S8192x2816, extf .f32 (shapeCast Cert.Reference3Ideal.S8192x2816 (extractStridedSlice Cert.Reference3Ideal.S1x8192x2816 ![0, 0, 0] g Cert.Reference3Ideal.Gen.slices_S2x8192x2816_S1x8192x2816_0_0_0) Cert.Reference3Ideal.Gen.shapeCasts_S1x8192x2816_S8192x2816) Cert.Reference3Ideal.Gen.bitsLt_bf16_f32⟩,
     ⟨Cert.Reference3Ideal.S8192x2816, extf .f32 (shapeCast Cert.Reference3Ideal.S8192x2816 (extractStridedSlice Cert.Reference3Ideal.S1x8192x2816 ![1, 0, 0] g Cert.Reference3Ideal.Gen.slices_S2x8192x2816_S1x8192x2816_1_0_0) Cert.Reference3Ideal.Gen.shapeCasts_S1x8192x2816_S8192x2816) Cert.Reference3Ideal.Gen.bitsLt_bf16_f32⟩]
    Cert.Reference3Ideal.Gen.concatenates_S8192x2816_S8192x2816_S8192x5632_d1

/-- The whole product: the stacked cotangent times the transposed weight. -/
abbrev product (g : FVec Ideal Cert.Reference3Ideal.S2x8192x2816 .bf16) (w : FVec Ideal Cert.Reference3Ideal.S1024x5632 .bf16) : FVec Ideal Cert.Reference3Ideal.S8192x1024 .bf16 :=
  truncf .bf16 (Host.dotGeneral Cert.Reference3Ideal.dot_S8192x5632_S1024x5632_S8192x1024_1_1_0_0_n_n none (stack g) (extf .f32 w Cert.Reference3Ideal.Gen.bitsLt_bf16_f32)) Cert.Reference3Ideal.Gen.bitsLt_bf16_f32

section Kernel
open Cert.Kernel3Ideal Cert.Kernel3Ideal.Gen

variable (m : (ℓ : Loc nD τ sig) → Buf (Elt Ideal) ℓ)

theorem idx_val : ∀ t : Fin cfg0.N, win0_0.index t = ![t.val % 2, t.val / 2, 0] ∧ win0_1.index t = ![0, t.val % 2]
    ∧ win0_2.index t = ![t.val / 2, 0] :=
  (by decide +kernel : ∀ t : Fin grid0.N, _)

/-- One block's product, at an index. -/
theorem part_apply (x : FVec Ideal S1x1024x2816 .bf16) (y : FVec Ideal S1024x2816 .bf16) (j : S1024x1024.Idx) :
    k0_pay2 (F := Ideal) x y j = ∑ k : Fin 2816, (x (ix3 0 (j 0) k) * y (ix2 (j 1) k) : EReal) := by
  pointwise [k0_pay2, k0_pay1]

theorem product_apply (g : FVec Ideal Cert.Reference3Ideal.S2x8192x2816 .bf16) (w : FVec Ideal Cert.Reference3Ideal.S1024x5632 .bf16) (j : Cert.Reference3Ideal.S8192x1024.Idx) :
    (product g w j : EReal) = ∑ k : Fin 5632, (stack g (ix2 (j 0) k) * w (ix2 (j 1) k) : EReal) := by
  pointwise [product, stack]

theorem step_apply (x : FVec Ideal S1x1024x2816 .bf16) (y : FVec Ideal S1024x2816 .bf16) (a : FVec Ideal S1024x1024 .f32) (j : S1024x1024.Idx) :
    k0_pay3 x y a j = a j + k0_pay2 x y j := by
  pointwise [k0_pay3, k0_pay2, k0_pay1]

/-- The accumulator when a run of points ends: the sum of the run's parts. -/
theorem acc_apply (c : Dev nD) (t : Fin cfg0.N) (h : t.val % 2 = 2 - 1) (j : S1024x1024.Idx) :
    (outsAt0 m c t.val t.isLt).2 j
      = ∑ s : Fin 2, k0_pay2 (iblk m c 0 ⟨2 * (t.val / 2) + s.val, Pipeline.run_point_lt_of_flush t h s⟩)
          (iblk m c 1 ⟨2 * (t.val / 2) + s.val, Pipeline.run_point_lt_of_flush t h s⟩) j := by
  have hN : cfg0.N = 16 := N_0
  rw [Pipeline.eq_sum_fin_of_reset_step_apply_of_flush (fun n h => (outsAt0 m c n h).2) 2 (fun _ => (0 : EReal))
    (fun t j => k0_pay2 (iblk m c 0 t) (iblk m c 1 t) j)
    (fun t h j => by
      have := t.isLt
      rw [outsAt0_A m c t h (by omega) (by omega), zero_add]
      dsimp only
      frame_out)
    (fun t h j => by
      have := t.isLt
      rw [outsAt0_B m c t h (by omega) (by omega)]
      dsimp only
      frame_out
      rw [step_apply, read_unread_whole])
    t h j, zero_add]

/-- The output of the last point of a run is the accumulator. -/
theorem out_eq_acc (c : Dev nD) (t : Fin cfg0.N) (h : t.val % 2 = 1) (j : S1024x1024.Idx) :
    ((outsAt0 m c t.val t.isLt).1 j : EReal) = (outsAt0 m c t.val t.isLt).2 j := by
  rw [outsAt0_B m c t (by omega) (by omega) h]
  dsimp only
  frame_out
  rfl

theorem point (c : Dev nD) (t : Fin cfg0.N) (h : t.val % 2 = 2 - 1) (y : S1024x1024.Idx) :
    (outsAt0 m c t.val t.isLt).1 y = product (m ((c : Thread nD τ).loc main_arg0)) (m ((c : Thread nD τ).loc main_arg1)) (((cfg0.win 2).blk t).view.emb y) := by
  rw [out_eq_acc m c t h y, acc_apply m c t h, product_apply]
  simp only [part_apply]
  refine Fin.sum_mul_add_congr fun s k hl => ?_
  pointwise [stack]
  split
  all_goals
    rename_i hq
    try blk_simp [idx_val t] at hq
    first
      | (exfalso; omega)
      | blk_point [iblk, V, idx_val t, idx_val ⟨_, Pipeline.run_point_lt_of_flush t h s⟩]

theorem final (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Kernel

section Claims

theorem reference_quiescent : quiescent_Reference3Ideal := fun m g _ =>
  (θ_run Cert.Reference3Ideal.defs _ _).mono (fun r h => ⟨fun c => (h c).2, sem_eq_zero_of_no_sems (by decide) r.2⟩) (Cert.Reference3Ideal.Value.run m g)

theorem agrees : algebraic_Kernel3Ideal_Reference3Ideal := by
  pair_intro
  · run_from Cert.Kernel3Ideal.Gen.run_main _ _
  · run_from Cert.Reference3Ideal.Value.run _ _
    exact (final m c).symm

end Claims

end Cert.Proof.Ffn2UpDx

end
-- ==== Proof.Ffn2UpDw.lean ====
/- The gradient of the second FFN's up projection: the array the tiled product leaves is the whole product's array. -/
module

public import proofs.«01_k».proof.Proof.Gen.Kernel4Ideal.Value
public import proofs.«01_k».proof.Proof.Gen.Reference4Ideal.Run
public import Idealize.ShloMosaic.Lib.Pipeline.ReadBack
public import Idealize.ShloMosaic.Lib.Pipeline.ValueKit
public import Idealize.ShloMosaic.Lib.Pointwise
public import proofs.«01_k».proof.Defs
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Ffn2UpDw

/-- The two halves of the cotangent side by side. -/
abbrev stack (g : FVec Ideal Cert.Reference4Ideal.S2x8192x2816 .bf16) : FVec Ideal Cert.Reference4Ideal.S8192x5632 .f32 :=
  concatenate Cert.Reference4Ideal.S8192x5632 1
    [⟨Cert.Reference4Ideal.S8192x2816, extf .f32 (shapeCast Cert.Reference4Ideal.S8192x2816 (extractStridedSlice Cert.Reference4Ideal.S1x8192x2816 ![0, 0, 0] g Cert.Reference4Ideal.Gen.slices_S2x8192x2816_S1x8192x2816_0_0_0) Cert.Reference4Ideal.Gen.shapeCasts_S1x8192x2816_S8192x2816) Cert.Reference4Ideal.Gen.bitsLt_bf16_f32⟩,
     ⟨Cert.Reference4Ideal.S8192x2816, extf .f32 (shapeCast Cert.Reference4Ideal.S8192x2816 (extractStridedSlice Cert.Reference4Ideal.S1x8192x2816 ![1, 0, 0] g Cert.Reference4Ideal.Gen.slices_S2x8192x2816_S1x8192x2816_1_0_0) Cert.Reference4Ideal.Gen.shapeCasts_S1x8192x2816_S8192x2816) Cert.Reference4Ideal.Gen.bitsLt_bf16_f32⟩]
    Cert.Reference4Ideal.Gen.concatenates_S8192x2816_S8192x2816_S8192x5632_d1

/-- The whole product: the normed rows transposed times the stacked cotangent. -/
abbrev product (u : FVec Ideal Cert.Reference4Ideal.S8192x1024 .bf16) (g : FVec Ideal Cert.Reference4Ideal.S2x8192x2816 .bf16) : FVec Ideal Cert.Reference4Ideal.S1024x5632 .f32 :=
  transpose Cert.Reference4Ideal.S1024x5632 [1, 0]
    (Host.dotGeneral Cert.Reference4Ideal.dot_S8192x5632_S8192x1024_S5632x1024_0_0_1_1_n_n none (stack g) (extf .f32 u Cert.Reference4Ideal.Gen.bitsLt_bf16_f32))
    Cert.Reference4Ideal.Gen.transposes_S5632x1024_S1024x5632_1_0

section Kernel
open Cert.Kernel4Ideal Cert.Kernel4Ideal.Gen

variable (m : (ℓ : Loc nD τ sig) → Buf (Elt Ideal) ℓ)

theorem idx_val : ∀ t : Fin cfg0.N, win0_0.index t = ![t.val % 4, 0] ∧ win0_1.index t = ![t.val / 8, t.val % 4, t.val / 4 % 2]
    ∧ win0_2.index t = ![0, t.val / 4] :=
  (by decide +kernel : ∀ t : Fin grid0.N, _)

/-- One block's product, at an index. -/
theorem part_apply (x : FVec Ideal S2048x1024 .bf16) (y : FVec Ideal S1x2048x1408 .bf16) (j : S1024x1408.Idx) :
    k0_pay2 (F := Ideal) x y j = ∑ k : Fin 2048, (x (ix2 k (j 0)) * y (ix3 0 k (j 1)) : EReal) := by
  pointwise [k0_pay2, k0_pay1]

theorem product_apply (u : FVec Ideal Cert.Reference4Ideal.S8192x1024 .bf16) (g : FVec Ideal Cert.Reference4Ideal.S2x8192x2816 .bf16) (j : Cert.Reference4Ideal.S1024x5632.Idx) :
    (product u g j : EReal) = ∑ k : Fin 8192, (u (ix2 k (j 0)) * stack g (ix2 k (j 1)) : EReal) := by
  pointwise [product, stack]
  exact Finset.sum_congr rfl fun _ _ => mul_comm _ _

theorem step_apply (x : FVec Ideal S2048x1024 .bf16) (y : FVec Ideal S1x2048x1408 .bf16) (a : FVec Ideal S1024x1408 .f32) (j : S1024x1408.Idx) :
    k0_pay3 x y a j = a j + k0_pay2 x y j := by
  pointwise [k0_pay3, k0_pay2, k0_pay1]

/-- The accumulator when a run of points ends: the sum of the run's parts. -/
theorem acc_apply (c : Dev nD) (t : Fin cfg0.N) (h : t.val % 4 = 4 - 1) (j : S1024x1408.Idx) :
    (outsAt0 m c t.val t.isLt).2 j
      = ∑ s : Fin 4, k0_pay2 (iblk m c 0 ⟨4 * (t.val / 4) + s.val, Pipeline.run_point_lt_of_flush t h s⟩)
          (iblk m c 1 ⟨4 * (t.val / 4) + s.val, Pipeline.run_point_lt_of_flush t h s⟩) j := by
  have hN : cfg0.N = 16 := N_0
  rw [Pipeline.eq_sum_fin_of_reset_step_apply_of_flush (fun n h => (outsAt0 m c n h).2) 4 (fun _ => (0 : EReal))
    (fun t j => k0_pay2 (iblk m c 0 t) (iblk m c 1 t) j)
    (fun t h j => by
      have := t.isLt
      rw [outsAt0_A m c t h (by omega) (by omega), zero_add]
      dsimp only
      frame_out)
    (fun t h j => by
      have := t.isLt
      by_cases h2 : t.val % 4 = 3
      · rw [outsAt0_C m c t h (by omega) h2]
        dsimp only
        frame_out
        rw [step_apply, read_unread_whole]
      · rw [outsAt0_B m c t h (by omega) h2]
        dsimp only
        frame_out
        rw [step_apply, read_unread_whole])
    t h j, zero_add]

/-- The output of the last point of a run is the accumulator. -/
theorem out_eq_acc (c : Dev nD) (t : Fin cfg0.N) (h : t.val % 4 = 3) :
    (outsAt0 m c t.val t.isLt).1 = (outsAt0 m c t.val t.isLt).2 := by
  rw [outsAt0_C m c t (by omega) (by omega) h]
  dsimp only
  frame_out

theorem point (c : Dev nD) (t : Fin cfg0.N) (h : t.val % 4 = 4 - 1) (y : S1024x1408.Idx) :
    (outsAt0 m c t.val t.isLt).1 y = product (m ((c : Thread nD τ).loc main_arg0)) (m ((c : Thread nD τ).loc main_arg1)) (((cfg0.win 2).blk t).view.emb y) := by
  rw [out_eq_acc m c t h, acc_apply m c t h, product_apply]
  simp only [part_apply]
  refine Fin.sum_mul_add_congr fun s k hl => ?_
  pointwise [stack]
  split
  all_goals
    rename_i hq
    blk_simp [idx_val t] at hq
    first
      | (exfalso; omega)
      | blk_point [iblk, V, idx_val t, idx_val ⟨_, Pipeline.run_point_lt_of_flush t h s⟩]

theorem final (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Kernel

section Claims

theorem reference_quiescent : quiescent_Reference4Ideal := fun m g _ =>
  (θ_run Cert.Reference4Ideal.defs _ _).mono (fun r h => ⟨fun c => (h c).2, sem_eq_zero_of_no_sems (by decide) r.2⟩) (Cert.Reference4Ideal.Value.run m g)

theorem agrees : algebraic_Kernel4Ideal_Reference4Ideal := by
  pair_intro
  · run_from Cert.Kernel4Ideal.Gen.run_main _ _
  · run_from Cert.Reference4Ideal.Value.run _ _
    exact (final m c).symm

end Claims

end Cert.Proof.Ffn2UpDw

end
-- ==== Proof.Ffn1DownDx.lean ====
/- The gradient of the first FFN's gated product: what the tiled kernel leaves in its output array, and that it is the chain rule's array. -/
module

public import proofs.«01_k».proof.Proof.Gen.Kernel5Ideal.Value
public import proofs.«01_k».proof.Proof.Gen.Reference5Ideal.Run
public import proofs.«01_k».proof.Proof.Gen.Pre_ffn1_finite
public import proofs.«01_k».proof.Proof.Scalars
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.Ffn1DownDx

section Formula
open Cert.Reference5Ideal Cert.Reference5Ideal.Gen

/-- The cotangent of the hidden layer: the output's cotangent times the transposed weight. -/
abbrev hidden (df : FVec Ideal S9216x1024 .bf16) (w : FVec Ideal S2816x1024 .bf16) : FVec Ideal S9216x2816 .f32 :=
  Host.dotGeneral dot_S9216x1024_S2816x1024_S9216x2816_1_1_0_0_n_n none (extf .f32 df bitsLt_bf16_f32) (extf .f32 w bitsLt_bf16_f32)

/-- The gate half of the saved activations. -/
abbrev gate (gu : FVec Ideal S2x9216x2816 .bf16) : FVec Ideal S9216x2816 .f32 :=
  extf .f32 (shapeCast S9216x2816 (extractStridedSlice S1x9216x2816 ![0, 0, 0] gu slices_S2x9216x2816_S1x9216x2816_0_0_0) shapeCasts_S1x9216x2816_S9216x2816) bitsLt_bf16_f32

/-- The other half. -/
abbrev up (gu : FVec Ideal S2x9216x2816 .bf16) : FVec Ideal S9216x2816 .f32 :=
  extf .f32 (shapeCast S9216x2816 (extractStridedSlice S1x9216x2816 ![1, 0, 0] gu slices_S2x9216x2816_S1x9216x2816_1_0_0) shapeCasts_S1x9216x2816_S9216x2816) bitsLt_bf16_f32

abbrev one : FVec Ideal S9216x2816 .f32 := broadcastInDim S9216x2816 ![] bcast_S_S9216x2816 (constant S_ .f32 0x3F800000#32)

abbrev sigmoid (a : FVec Ideal S9216x2816 .f32) : FVec Ideal S9216x2816 .f32 := Host.divf one (addf one (Host.exp (Host.negf a)))

/-- Two halves laid one after the other. -/
abbrev stack (x y : FVec Ideal S9216x2816 .f32) : FVec Ideal S2x9216x2816 .bf16 :=
  truncf .bf16 (concatenate S2x9216x2816 0 [⟨S1x9216x2816, (broadcastInDim S1x9216x2816 ![1, 2] bcast_S9216x2816_S1x9216x2816_1_2 x)⟩, ⟨S1x9216x2816, (broadcastInDim S1x9216x2816 ![1, 2] bcast_S9216x2816_S1x9216x2816_1_2 y)⟩] concatenates_S1x9216x2816_S1x9216x2816_S2x9216x2816_d0) bitsLt_bf16_f32

/-- The factored gradient of `silu a * b`, whole array. -/
abbrev factored (df : FVec Ideal S9216x1024 .bf16) (w : FVec Ideal S2816x1024 .bf16) (gu : FVec Ideal S2x9216x2816 .bf16) : FVec Ideal S2x9216x2816 .bf16 :=
  stack (mulf (mulf (mulf (hidden df w) (up gu)) (sigmoid (gate gu))) (addf one (mulf (gate gu) (subf one (sigmoid (gate gu))))))
    (mulf (mulf (hidden df w) (gate gu)) (sigmoid (gate gu)))

/-- The chain rule's gradient, as the reference's operations compose. -/
abbrev chained (df : FVec Ideal S9216x1024 .bf16) (w : FVec Ideal S2816x1024 .bf16) (gu : FVec Ideal S2x9216x2816 .bf16) : FVec Ideal S2x9216x2816 .bf16 :=
  stack (addf (mulf (mulf (hidden df w) (up gu)) (sigmoid (gate gu)))
      (mulf (mulf (gate gu) (mulf (hidden df w) (up gu))) (mulf (sigmoid (gate gu)) (subf one (sigmoid (gate gu))))))
    (mulf (mulf (gate gu) (sigmoid (gate gu))) (hidden df w))

end Formula

section Kernel
open Cert.Kernel5Ideal Cert.Kernel5Ideal.Gen

variable (m : (ℓ : Loc nD τ sig) → Buf (Elt Ideal) ℓ)

theorem idx_val : ∀ t : Fin cfg0.N, win0_0.index t = ![t.val % 18, 0]
    ∧ win0_1.index t = ![t.val / 18, 0]
    ∧ win0_2.index t = ![0, t.val % 18, t.val / 18]
    ∧ win0_3.index t = ![0, t.val % 18, t.val / 18] :=
  (by decide +kernel : ∀ t : Fin grid0.N, _)

set_option maxHeartbeats 1600000 in
/-- One grid point's two stores are the factored gradient's block. -/
theorem point (c : Dev nD) (t : Fin cfg0.N) (y) :
    out0_3 (iblk m c 0 t) (iblk m c 1 t) (iblk m c 2 t) y
      = factored (m ((c : Thread nD τ).loc main_arg0)) (m ((c : Thread nD τ).loc main_arg1)) (m ((c : Thread nD τ).loc
        main_arg2)) (((cfg0.win 3).blk t).view.emb y) := by
  canon_tiles x h
  all_goals
    open_payloads
    pointwise [factored, stack, hidden, gate, up, sigmoid, one]
    simp only [Ideal.logistic]
    split
    all_goals
      rename_i hq
      blk_simp [idx_val t] at hq
      first
        | (exfalso; omega)
        | blk_point [iblk, V, idx_val t]

theorem final (c : Dev nD) : (dats m 0 c).arrAt 3 (cfgs 0).N = factored (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Kernel

section Agree
open Cert.Reference5Ideal Cert.Reference5Ideal.Gen

/-- Where the cotangent, the weight and the ungated half are finite, the two forms of the gradient are one array. -/
theorem factored_eq_chained (df : FVec Ideal S9216x1024 .bf16) (w : FVec Ideal S2816x1024 .bf16) (gu : FVec Ideal S2x9216x2816 .bf16)
    (h : Cert.Pre_ffn1_finite.fn df w gu = (fun _ => 1#1, fun _ => 1#1, fun _ => 1#1)) : factored df w gu = chained df w gu := by
  have h0 : ∀ i, ∃ r : ℝ, df i = (r : EReal) := fun i => Scalars.exists_real_of_cmp (congrFun (congrArg Prod.fst h) i)
  have h1 : ∀ i, ∃ r : ℝ, w i = (r : EReal) := fun i => Scalars.exists_real_of_cmp (congrFun (congrArg (·.2.1) h) i)
  have h2 : ∀ i, ∃ r : ℝ, up gu i = (r : EReal) := fun i => Scalars.exists_real_of_cmp (congrFun (congrArg (·.2.2) h) i)
  funext j
  idx_vars j
  have hup : up gu (ix2 j1 j2) = gu (ix3 1 j1 j2) := by pointwise [up]
  have hx : ∃ r : ℝ, (∑ x, df (ix2 j1 x) * w (ix2 j2 x)) * gu (ix3 1 j1 j2) = (r : EReal) := by
    obtain ⟨p, hp⟩ := Scalars.exists_real_sum (fun x => h0 (ix2 j1 x)) (fun x => h1 (ix2 j2 x))
    obtain ⟨q, hq⟩ := h2 (ix2 j1 j2)
    exact ⟨p * q, by rw [hp, ← hup, hq, EReal.coe_mul]⟩
  pointwise [factored, chained, stack, hidden, gate, up, sigmoid, one]
  split
  · exact Scalars.silu_grad hx _
  · rw [mul_assoc, mul_comm]

end Agree

section Claims

theorem reference_quiescent : quiescent_Reference5Ideal := fun m g _ =>
  (θ_run Cert.Reference5Ideal.defs _ _).mono (fun r h => ⟨fun c => (h c).2, sem_eq_zero_of_no_sems (by decide) r.2⟩) (Cert.Reference5Ideal.Value.run m g)

theorem agrees : algebraic_Kernel5Ideal_Reference5Ideal_pre_ffn1_finite := by
  pair_intro
  · run_from Cert.Kernel5Ideal.Gen.run_main _ _
  · run_from Cert.Reference5Ideal.Value.run _ _
    have h := hpre c
    rw [(hagree c).2.2]
    refine Eq.trans ?_ (final m c).symm
    rw [factored_eq_chained _ _ _ (Prod.ext h.1 (Prod.ext h.2.1 h.2.2))]

end Claims

end Cert.Proof.Ffn1DownDx

end
-- ==== Proof.Ffn1DownDw.lean ====
/- The gradient of the first FFN's down projection: the array the tiled product leaves is the whole product's array. -/
module

public import proofs.«01_k».proof.Proof.Gen.Kernel6Ideal.Value
public import proofs.«01_k».proof.Proof.Gen.Reference6Ideal.Run
public import Idealize.ShloMosaic.Lib.Pipeline.ReadBack
public import Idealize.ShloMosaic.Lib.Pipeline.ValueKit
public import Idealize.ShloMosaic.Lib.Pointwise
public import proofs.«01_k».proof.Defs
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Ffn1DownDw

/-- The whole product: the hidden rows transposed times the cotangent. -/
abbrev product (u : FVec Ideal Cert.Reference6Ideal.S9216x2816 .bf16) (d : FVec Ideal Cert.Reference6Ideal.S9216x1024 .bf16) : FVec Ideal Cert.Reference6Ideal.S2816x1024 .f32 :=
  transpose Cert.Reference6Ideal.S2816x1024 [1, 0]
    (Host.dotGeneral Cert.Reference6Ideal.dot_S9216x1024_S9216x2816_S1024x2816_0_0_1_1_n_n none
      (extf .f32 d Cert.Reference6Ideal.Gen.bitsLt_bf16_f32) (extf .f32 u Cert.Reference6Ideal.Gen.bitsLt_bf16_f32))
    Cert.Reference6Ideal.Gen.transposes_S1024x2816_S2816x1024_1_0

section Kernel
open Cert.Kernel6Ideal Cert.Kernel6Ideal.Gen

variable (m : (ℓ : Loc nD τ sig) → Buf (Elt Ideal) ℓ)

theorem idx_val : ∀ t : Fin cfg0.N, win0_0.index t = ![t.val % 6, t.val / 6] ∧ win0_1.index t = ![t.val % 6, 0]
    ∧ win0_2.index t = ![t.val / 6, 0] :=
  (by decide +kernel : ∀ t : Fin grid0.N, _)

/-- One block's product, at an index. -/
theorem part_apply (x : FVec Ideal S1536x1408 .bf16) (y : FVec Ideal S1536x1024 .bf16) (j : S1408x1024.Idx) :
    k0_pay2 (F := Ideal) x y j = ∑ k : Fin 1536, (x (ix2 k (j 0)) * y (ix2 k (j 1)) : EReal) := by
  pointwise [k0_pay2, k0_pay1]

theorem product_apply (u : FVec Ideal Cert.Reference6Ideal.S9216x2816 .bf16) (d : FVec Ideal Cert.Reference6Ideal.S9216x1024 .bf16) (j : Cert.Reference6Ideal.S2816x1024.Idx) :
    (product u d j : EReal) = ∑ k : Fin 9216, (u (ix2 k (j 0)) * d (ix2 k (j 1)) : EReal) := by
  pointwise [product]
  exact Finset.sum_congr rfl fun _ _ => mul_comm _ _

theorem step_apply (x : FVec Ideal S1536x1408 .bf16) (y : FVec Ideal S1536x1024 .bf16) (a : FVec Ideal S1408x1024 .f32) (j : S1408x1024.Idx) :
    k0_pay3 x y a j = a j + k0_pay2 x y j := by
  pointwise [k0_pay3, k0_pay2, k0_pay1]

/-- The accumulator when a run of points ends: the sum of the run's parts. -/
theorem acc_apply (c : Dev nD) (t : Fin cfg0.N) (h : t.val % 6 = 6 - 1) (j : S1408x1024.Idx) :
    (outsAt0 m c t.val t.isLt).2 j
      = ∑ s : Fin 6, k0_pay2 (iblk m c 0 ⟨6 * (t.val / 6) + s.val, Pipeline.run_point_lt_of_flush t h s⟩)
          (iblk m c 1 ⟨6 * (t.val / 6) + s.val, Pipeline.run_point_lt_of_flush t h s⟩) j := by
  have hN : cfg0.N = 12 := N_0
  rw [Pipeline.eq_sum_fin_of_reset_step_apply_of_flush (fun n h => (outsAt0 m c n h).2) 6 (fun _ => (0 : EReal))
    (fun t j => k0_pay2 (iblk m c 0 t) (iblk m c 1 t) j)
    (fun t h j => by
      have := t.isLt
      rw [outsAt0_A m c t h (by omega) (by omega), zero_add]
      dsimp only
      frame_out)
    (fun t h j => by
      have := t.isLt
      by_cases h2 : t.val % 6 = 5
      · rw [outsAt0_C m c t h (by omega) h2]
        dsimp only
        frame_out
        rw [step_apply, read_unread_whole]
      · rw [outsAt0_B m c t h (by omega) h2]
        dsimp only
        frame_out
        rw [step_apply, read_unread_whole])
    t h j, zero_add]

/-- The output of the last point of a run is the accumulator. -/
theorem out_eq_acc (c : Dev nD) (t : Fin cfg0.N) (h : t.val % 6 = 5) :
    (outsAt0 m c t.val t.isLt).1 = (outsAt0 m c t.val t.isLt).2 := by
  rw [outsAt0_C m c t (by omega) (by omega) h]
  dsimp only
  frame_out

theorem point (c : Dev nD) (t : Fin cfg0.N) (h : t.val % 6 = 6 - 1) (y : S1408x1024.Idx) :
    (outsAt0 m c t.val t.isLt).1 y = product (m ((c : Thread nD τ).loc main_arg0)) (m ((c : Thread nD τ).loc main_arg1)) (((cfg0.win 2).blk t).view.emb y) := by
  rw [out_eq_acc m c t h, acc_apply m c t h, product_apply]
  simp only [part_apply]
  refine Fin.sum_mul_add_congr fun s k hl => ?_
  blk_point [iblk, V, idx_val t, idx_val ⟨_, Pipeline.run_point_lt_of_flush t h s⟩]

theorem final (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Kernel

section Claims

theorem reference_quiescent : quiescent_Reference6Ideal := fun m g _ =>
  (θ_run Cert.Reference6Ideal.defs _ _).mono (fun r h => ⟨fun c => (h c).2, sem_eq_zero_of_no_sems (by decide) r.2⟩) (Cert.Reference6Ideal.Value.run m g)

theorem agrees : algebraic_Kernel6Ideal_Reference6Ideal := by
  pair_intro
  · run_from Cert.Kernel6Ideal.Gen.run_main _ _
  · run_from Cert.Reference6Ideal.Value.run _ _
    exact (final m c).symm

end Claims

end Cert.Proof.Ffn1DownDw

end
-- ==== Proof.InProjDw.lean ====
/- The gradient of the mixer's input projection: the array the tiled product leaves is the whole product's array. -/
module

public import proofs.«01_k».proof.Proof.Gen.Kernel7Ideal.Value
public import proofs.«01_k».proof.Proof.Gen.Reference7Ideal.Run
public import Idealize.ShloMosaic.Lib.Pipeline.ReadBack
public import Idealize.ShloMosaic.Lib.Pipeline.ValueKit
public import Idealize.ShloMosaic.Lib.Pointwise
public import proofs.«01_k».proof.Defs
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.InProjDw

/-- The whole product: the normed rows transposed times the cotangent. -/
abbrev product (u : FVec Ideal Cert.Reference7Ideal.S9216x1024 .bf16) (d : FVec Ideal Cert.Reference7Ideal.S9216x7296 .bf16) : FVec Ideal Cert.Reference7Ideal.S1024x7296 .f32 :=
  transpose Cert.Reference7Ideal.S1024x7296 [1, 0]
    (Host.dotGeneral Cert.Reference7Ideal.dot_S9216x7296_S9216x1024_S7296x1024_0_0_1_1_n_n none
      (extf .f32 d Cert.Reference7Ideal.Gen.bitsLt_bf16_f32) (extf .f32 u Cert.Reference7Ideal.Gen.bitsLt_bf16_f32))
    Cert.Reference7Ideal.Gen.transposes_S7296x1024_S1024x7296_1_0

section Kernel
open Cert.Kernel7Ideal Cert.Kernel7Ideal.Gen

variable (m : (ℓ : Loc nD τ sig) → Buf (Elt Ideal) ℓ)

theorem idx_val : ∀ t : Fin cfg0.N, win0_0.index t = ![t.val % 6, t.val / 18] ∧ win0_1.index t = ![t.val % 6, t.val / 6 % 3]
    ∧ win0_2.index t = ![t.val / 18, t.val / 6 % 3] :=
  (by decide +kernel : ∀ t : Fin grid0.N, _)

/-- One block's product, at an index. -/
theorem part_apply (x : FVec Ideal S1536x512 .bf16) (y : FVec Ideal S1536x2432 .bf16) (j : S512x2432.Idx) :
    k0_pay2 (F := Ideal) x y j = ∑ k : Fin 1536, (x (ix2 k (j 0)) * y (ix2 k (j 1)) : EReal) := by
  pointwise [k0_pay2, k0_pay1]

theorem product_apply (u : FVec Ideal Cert.Reference7Ideal.S9216x1024 .bf16) (d : FVec Ideal Cert.Reference7Ideal.S9216x7296 .bf16) (j : Cert.Reference7Ideal.S1024x7296.Idx) :
    (product u d j : EReal) = ∑ k : Fin 9216, (u (ix2 k (j 0)) * d (ix2 k (j 1)) : EReal) := by
  pointwise [product]
  exact Finset.sum_congr rfl fun _ _ => mul_comm _ _

theorem step_apply (x : FVec Ideal S1536x512 .bf16) (y : FVec Ideal S1536x2432 .bf16) (a : FVec Ideal S512x2432 .f32) (j : S512x2432.Idx) :
    k0_pay3 x y a j = a j + k0_pay2 x y j := by
  pointwise [k0_pay3, k0_pay2, k0_pay1]

/-- The accumulator when a run of points ends: the sum of the run's parts. -/
theorem acc_apply (c : Dev nD) (t : Fin cfg0.N) (h : t.val % 6 = 6 - 1) (j : S512x2432.Idx) :
    (outsAt0 m c t.val t.isLt).2 j
      = ∑ s : Fin 6, k0_pay2 (iblk m c 0 ⟨6 * (t.val / 6) + s.val, Pipeline.run_point_lt_of_flush t h s⟩)
          (iblk m c 1 ⟨6 * (t.val / 6) + s.val, Pipeline.run_point_lt_of_flush t h s⟩) j := by
  have hN : cfg0.N = 36 := N_0
  rw [Pipeline.eq_sum_fin_of_reset_step_apply_of_flush (fun n h => (outsAt0 m c n h).2) 6 (fun _ => (0 : EReal))
    (fun t j => k0_pay2 (iblk m c 0 t) (iblk m c 1 t) j)
    (fun t h j => by
      have := t.isLt
      rw [outsAt0_A m c t h (by omega) (by omega), zero_add]
      dsimp only
      frame_out)
    (fun t h j => by
      have := t.isLt
      by_cases h2 : t.val % 6 = 5
      · rw [outsAt0_C m c t h (by omega) h2]
        dsimp only
        frame_out
        rw [step_apply, read_unread_whole]
      · rw [outsAt0_B m c t h (by omega) h2]
        dsimp only
        frame_out
        rw [step_apply, read_unread_whole])
    t h j, zero_add]

/-- The output of the last point of a run is the accumulator. -/
theorem out_eq_acc (c : Dev nD) (t : Fin cfg0.N) (h : t.val % 6 = 5) :
    (outsAt0 m c t.val t.isLt).1 = (outsAt0 m c t.val t.isLt).2 := by
  rw [outsAt0_C m c t (by omega) (by omega) h]
  dsimp only
  frame_out

theorem point (c : Dev nD) (t : Fin cfg0.N) (h : t.val % 6 = 6 - 1) (y : S512x2432.Idx) :
    (outsAt0 m c t.val t.isLt).1 y = product (m ((c : Thread nD τ).loc main_arg0)) (m ((c : Thread nD τ).loc main_arg1)) (((cfg0.win 2).blk t).view.emb y) := by
  rw [out_eq_acc m c t h, acc_apply m c t h, product_apply]
  simp only [part_apply]
  refine Fin.sum_mul_add_congr fun s k hl => ?_
  blk_point [iblk, V, idx_val t, idx_val ⟨_, Pipeline.run_point_lt_of_flush t h s⟩]

theorem final (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Kernel

section Claims

theorem reference_quiescent : quiescent_Reference7Ideal := fun m g _ =>
  (θ_run Cert.Reference7Ideal.defs _ _).mono (fun r h => ⟨fun c => (h c).2, sem_eq_zero_of_no_sems (by decide) r.2⟩) (Cert.Reference7Ideal.Value.run m g)

theorem agrees : algebraic_Kernel7Ideal_Reference7Ideal := by
  pair_intro
  · run_from Cert.Kernel7Ideal.Gen.run_main _ _
  · run_from Cert.Reference7Ideal.Value.run _ _
    exact (final m c).symm

end Claims

end Cert.Proof.InProjDw

end
-- ==== Proof.MixOutDw.lean ====
/- The gradient of a square output projection: the array the tiled product leaves is the whole product's array. -/
module

public import proofs.«01_k».proof.Proof.Gen.Kernel8Ideal.Value
public import proofs.«01_k».proof.Proof.Gen.Reference8Ideal.Run
public import Idealize.ShloMosaic.Lib.Pipeline.ReadBack
public import Idealize.ShloMosaic.Lib.Pipeline.ValueKit
public import Idealize.ShloMosaic.Lib.Pointwise
public import proofs.«01_k».proof.Defs
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.MixOutDw

/-- The whole product: the saved rows transposed times the cotangent. -/
abbrev product (u d : FVec Ideal Cert.Reference8Ideal.S8192x1024 .bf16) : FVec Ideal Cert.Reference8Ideal.S1024x1024 .f32 :=
  transpose Cert.Reference8Ideal.S1024x1024 [1, 0]
    (Host.dotGeneral Cert.Reference8Ideal.dot_S8192x1024_S8192x1024_S1024x1024_0_0_1_1_n_n none
      (extf .f32 d Cert.Reference8Ideal.Gen.bitsLt_bf16_f32) (extf .f32 u Cert.Reference8Ideal.Gen.bitsLt_bf16_f32))
    Cert.Reference8Ideal.Gen.transposes_S1024x1024_S1024x1024_1_0

section Kernel
open Cert.Kernel8Ideal Cert.Kernel8Ideal.Gen

variable (m : (ℓ : Loc nD τ sig) → Buf (Elt Ideal) ℓ)

theorem idx_val : ∀ t : Fin cfg0.N, win0_0.index t = ![t.val, 0] ∧ win0_1.index t = ![t.val, 0] ∧ win0_2.index t = ![0, 0] :=
  (by decide +kernel : ∀ t : Fin grid0.N, _)

/-- One block's product, at an index. -/
theorem part_apply (x : FVec Ideal S2048x1024 .bf16) (y : FVec Ideal S2048x1024 .bf16) (j : S1024x1024.Idx) :
    k0_pay2 (F := Ideal) x y j = ∑ k : Fin 2048, (x (ix2 k (j 0)) * y (ix2 k (j 1)) : EReal) := by
  pointwise [k0_pay2, k0_pay1]

theorem product_apply (u d : FVec Ideal Cert.Reference8Ideal.S8192x1024 .bf16) (j : Cert.Reference8Ideal.S1024x1024.Idx) :
    (product u d j : EReal) = ∑ k : Fin 8192, (u (ix2 k (j 0)) * d (ix2 k (j 1)) : EReal) := by
  pointwise [product]
  exact Finset.sum_congr rfl fun _ _ => mul_comm _ _

theorem step_apply (x : FVec Ideal S2048x1024 .bf16) (y : FVec Ideal S2048x1024 .bf16) (a : FVec Ideal S1024x1024 .f32) (j : S1024x1024.Idx) :
    k0_pay3 x y a j = a j + k0_pay2 x y j := by
  pointwise [k0_pay3, k0_pay2, k0_pay1]

/-- The accumulator when a run of points ends: the sum of the run's parts. -/
theorem acc_apply (c : Dev nD) (t : Fin cfg0.N) (h : t.val % 4 = 4 - 1) (j : S1024x1024.Idx) :
    (outsAt0 m c t.val t.isLt).2 j
      = ∑ s : Fin 4, k0_pay2 (iblk m c 0 ⟨4 * (t.val / 4) + s.val, Pipeline.run_point_lt_of_flush t h s⟩)
          (iblk m c 1 ⟨4 * (t.val / 4) + s.val, Pipeline.run_point_lt_of_flush t h s⟩) j := by
  have hN : cfg0.N = 4 := N_0
  rw [Pipeline.eq_sum_fin_of_reset_step_apply_of_flush (fun n h => (outsAt0 m c n h).2) 4 (fun _ => (0 : EReal))
    (fun t j => k0_pay2 (iblk m c 0 t) (iblk m c 1 t) j)
    (fun t h j => by
      have := t.isLt
      rw [outsAt0_A m c t h (by omega) (by omega), zero_add]
      dsimp only
      frame_out)
    (fun t h j => by
      have := t.isLt
      by_cases h2 : t.val % 4 = 3
      · rw [outsAt0_C m c t h (by omega) h2]
        dsimp only
        frame_out
        rw [step_apply, read_unread_whole]
      · rw [outsAt0_B m c t h (by omega) h2]
        dsimp only
        frame_out
        rw [step_apply, read_unread_whole])
    t h j, zero_add]

/-- The output of the last point of a run is the accumulator. -/
theorem out_eq_acc (c : Dev nD) (t : Fin cfg0.N) (h : t.val % 4 = 3) :
    (outsAt0 m c t.val t.isLt).1 = (outsAt0 m c t.val t.isLt).2 := by
  rw [outsAt0_C m c t (by omega) (by omega) h]
  dsimp only
  frame_out

theorem point (c : Dev nD) (t : Fin cfg0.N) (h : t.val % 4 = 4 - 1) (y : S1024x1024.Idx) :
    (outsAt0 m c t.val t.isLt).1 y = product (m ((c : Thread nD τ).loc main_arg0)) (m ((c : Thread nD τ).loc main_arg1)) (((cfg0.win 2).blk t).view.emb y) := by
  rw [out_eq_acc m c t h, acc_apply m c t h, product_apply]
  simp only [part_apply]
  refine Fin.sum_mul_add_congr fun s k hl => ?_
  blk_point [iblk, V, idx_val t, idx_val ⟨_, Pipeline.run_point_lt_of_flush t h s⟩]

theorem final (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Kernel

section Claims

theorem reference_quiescent : quiescent_Reference8Ideal := fun m g _ =>
  (θ_run Cert.Reference8Ideal.defs _ _).mono (fun r h => ⟨fun c => (h c).2, sem_eq_zero_of_no_sems (by decide) r.2⟩) (Cert.Reference8Ideal.Value.run m g)

theorem agrees : algebraic_Kernel8Ideal_Reference8Ideal := by
  pair_intro
  · run_from Cert.Kernel8Ideal.Gen.run_main _ _
  · run_from Cert.Reference8Ideal.Value.run _ _
    exact (final m c).symm

end Claims

end Cert.Proof.MixOutDw

end
-- ==== Proof.Ffn2Up.lean ====
/- The second FFN's up-projection and its gated product: what the tiled kernel leaves in its two output arrays. -/
module

public import proofs.«01_k».proof.Proof.Gen.Kernel9Ideal.Value
public import proofs.«01_k».proof.Proof.Gen.Reference9Ideal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.Ffn2Up

section Formula
open Cert.Reference9Ideal Cert.Reference9Ideal.Gen

/-- Both halves of the up-projection. -/
abbrev product (u : FVec Ideal S8192x1024 .bf16) (w : FVec Ideal S1024x5632 .bf16) : FVec Ideal S8192x5632 .f32 :=
  Host.dotGeneral dot_S8192x1024_S1024x5632_S8192x5632_1_0_0_1_n_n none (extf .f32 u bitsLt_bf16_f32) (extf .f32 w bitsLt_bf16_f32)

abbrev gate (u : FVec Ideal S8192x1024 .bf16) (w : FVec Ideal S1024x5632 .bf16) : FVec Ideal S8192x2816 .f32 :=
  extractStridedSlice S8192x2816 ![0, 0] (product u w) slices_S8192x5632_S8192x2816_0_0

abbrev up (u : FVec Ideal S8192x1024 .bf16) (w : FVec Ideal S1024x5632 .bf16) : FVec Ideal S8192x2816 .f32 :=
  extractStridedSlice S8192x2816 ![0, 2816] (product u w) slices_S8192x5632_S8192x2816_0_2816

abbrev one : FVec Ideal S8192x2816 .f32 := broadcastInDim S8192x2816 ![] bcast_S_S8192x2816 (constant S_ .f32 0x3F800000#32)

abbrev sigmoid (a : FVec Ideal S8192x2816 .f32) : FVec Ideal S8192x2816 .f32 := Host.divf one (addf one (Host.exp (Host.negf a)))

/-- The two halves laid one after the other. -/
abbrev stacked (u : FVec Ideal S8192x1024 .bf16) (w : FVec Ideal S1024x5632 .bf16) : FVec Ideal S2x8192x2816 .bf16 :=
  truncf .bf16 (concatenate S2x8192x2816 0 [⟨S1x8192x2816, (broadcastInDim S1x8192x2816 ![1, 2] bcast_S8192x2816_S1x8192x2816_1_2 (gate u w))⟩, ⟨S1x8192x2816, (broadcastInDim S1x8192x2816 ![1, 2] bcast_S8192x2816_S1x8192x2816_1_2 (up u w))⟩] concatenates_S1x8192x2816_S1x8192x2816_S2x8192x2816_d0) bitsLt_bf16_f32

abbrev hidden (u : FVec Ideal S8192x1024 .bf16) (w : FVec Ideal S1024x5632 .bf16) : FVec Ideal S8192x2816 .bf16 :=
  truncf .bf16 (mulf (mulf (gate u w) (sigmoid (gate u w))) (up u w)) bitsLt_bf16_f32

end Formula

section Kernel
open Cert.Kernel9Ideal Cert.Kernel9Ideal.Gen

variable (m : (ℓ : Loc nD τ sig) → Buf (Elt Ideal) ℓ)

theorem idx_val : ∀ t : Fin cfg0.N, win0_0.index t = ![t.val % 16, 0] ∧ win0_1.index t = ![0, t.val / 16]
    ∧ win0_2.index t = ![0, 2 + (t.val / 16)] ∧ win0_3.index t = ![0, t.val % 16, t.val / 16] ∧ win0_4.index t = ![t.val % 16, t.val / 16] :=
  (by decide +kernel : ∀ t : Fin grid0.N, _)

set_option maxHeartbeats 1600000 in
theorem point3 (c : Dev nD) (t : Fin cfg0.N) (y) :
    out0_3 (iblk m c 0 t) (iblk m c 1 t) (iblk m c 2 t) y = stacked (m ((c : Thread nD τ).loc main_arg0)) (m ((c : Thread nD τ).loc main_arg1)) (((cfg0.win 3).blk t).view.emb y) := by
  canon_tiles x h
  all_goals
    open_payloads
    pointwise [stacked, gate, up, product]
    split
    all_goals
      rename_i hq
      blk_simp [idx_val t] at hq
      first
        | (exfalso; omega)
        | blk_point [iblk, V, idx_val t]

set_option maxHeartbeats 1600000 in
theorem point4 (c : Dev nD) (t : Fin cfg0.N) (y) :
    out0_4 (iblk m c 0 t) (iblk m c 1 t) (iblk m c 2 t) y = hidden (m ((c : Thread nD τ).loc main_arg0)) (m ((c : Thread nD τ).loc main_arg1)) (((cfg0.win 4).blk t).view.emb y) := by
  frame_out
  have ha : k0_pay1 (iblk m c 0 t) (iblk m c 1 t) y = gate (m ((c : Thread nD τ).loc main_arg0)) (m ((c : Thread nD τ).loc main_arg1)) (((cfg0.win 4).blk t).view.emb y) := by
    pointwise [k0_pay1, gate, product]
    blk_point [iblk, V, idx_val t]
  have hb : k0_pay2 (iblk m c 0 t) (iblk m c 2 t) y = up (m ((c : Thread nD τ).loc main_arg0)) (m ((c : Thread nD τ).loc main_arg1)) (((cfg0.win 4).blk t).view.emb y) := by
    pointwise [k0_pay2, up, product]
    blk_point [iblk, V, idx_val t]
  pointwise [k0_pay5, hidden, sigmoid, one, ha, hb]
  simp only [Ideal.logistic]

theorem final3 (c : Dev nD) : (dats m 0 c).arrAt 3 (cfgs 0).N = stacked (m ((c : Thread nD τ).loc main_arg0)) (m ((c : Thread nD τ).loc main_arg1)) := by
  refine (dats m 0 c).arrAt_eq_of_covers 3 _ (by decide +kernel) fun t hf y => ?_
  blk_simp; rw [after0_3]
  exact point3 m c t y

theorem final4 (c : Dev nD) : (dats m 0 c).arrAt 4 (cfgs 0).N = hidden (m ((c : Thread nD τ).loc main_arg0)) (m ((c : Thread nD τ).loc main_arg1)) := by
  refine (dats m 0 c).arrAt_eq_of_covers 4 _ (by decide +kernel) fun t hf y => ?_
  blk_simp; rw [after0_4]
  exact point4 m c t y

end Kernel

section Claims

theorem reference_quiescent : quiescent_Reference9Ideal := fun m g _ =>
  (θ_run Cert.Reference9Ideal.defs _ _).mono (fun r h => ⟨fun c => (h c).2.2, sem_eq_zero_of_no_sems (by decide) r.2⟩) (Cert.Reference9Ideal.Value.run m g)

set_option maxHeartbeats 4000000 in
theorem agrees : algebraic_Kernel9Ideal_Reference9Ideal := by
  pair_intro
  · run_from Cert.Kernel9Ideal.Gen.run_main _ _
  · run_from Cert.Reference9Ideal.Value.run _ _
    · exact (final3 m c).symm
    · exact (final4 m c).symm

end Claims

end Cert.Proof.Ffn2Up

end
-- ==== Proof.MixOutMergeBwd.lean ====
/- The gradient of the merge of the two branches: what the tiled kernel leaves in its four output arrays. -/
module

public import proofs.«01_k».proof.Proof.Gen.Kernel10Ideal.Value
public import proofs.«01_k».proof.Proof.Gen.Reference10Ideal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.MixOutMergeBwd

section Formula
open Cert.Reference10Ideal Cert.Reference10Ideal.Gen

abbrev one : FVec Ideal S8192x1024 .f32 := broadcastInDim S8192x1024 ![] bcast_S_S8192x1024 (constant S_ .f32 0x3F800000#32)

abbrev sigmoid (a : FVec Ideal S8192x1024 .f32) : FVec Ideal S8192x1024 .f32 := Host.divf one (addf one (Host.exp (Host.negf a)))

/-- The first branch's gate: its columns of the projection, the latent rows. -/
abbrev gateA (p : FVec Ideal S9216x7296 .bf16) : FVec Ideal S8192x1024 .f32 :=
  extf .f32 (extractStridedSlice S8192x1024 ![0, 4096] p slices_S9216x7296_S8192x1024_0_4096) bitsLt_bf16_f32

/-- The second branch's gate. -/
abbrev gateB (p : FVec Ideal S9216x7296 .bf16) : FVec Ideal S8192x1024 .f32 :=
  extf .f32 (extractStridedSlice S8192x1024 ![0, 5120] p slices_S9216x7296_S8192x1024_0_5120) bitsLt_bf16_f32

/-- The merged branches' cotangent: the output's cotangent times the transposed weight. -/
def cotangent (d : FVec Ideal S8192x1024 .bf16) (w : FVec Ideal S1024x1024 .bf16) : FVec Ideal S8192x1024 .f32 :=
  Host.dotGeneral dot_S8192x1024_S1024x1024_S8192x1024_1_1_0_0_n_n none (extf .f32 d bitsLt_bf16_f32) (extf .f32 w bitsLt_bf16_f32)

/-- The gate's gradient, for a branch's cotangent `d`, output `y` and gate `a`. -/
abbrev toGate (d : FVec Ideal S8192x1024 .f32) (y : FVec Ideal S8192x1024 .bf16) (a : FVec Ideal S8192x1024 .f32) : FVec Ideal S8192x1024 .bf16 :=
  truncf .bf16 (mulf (mulf d (extf .f32 y bitsLt_bf16_f32)) (mulf (sigmoid a) (subf one (sigmoid a)))) bitsLt_bf16_f32

/-- The branch's gradient. -/
abbrev toBranch (d : FVec Ideal S8192x1024 .f32) (a : FVec Ideal S8192x1024 .f32) : FVec Ideal S8192x1024 .bf16 :=
  truncf .bf16 (mulf (sigmoid a) d) bitsLt_bf16_f32

end Formula

section Kernel
open Cert.Kernel10Ideal Cert.Kernel10Ideal.Gen

variable (m : (ℓ : Loc nD τ sig) → Buf (Elt Ideal) ℓ)

theorem idx_val : ∀ t : Fin cfg0.N, win0_0.index t = ![t.val, 4] ∧ win0_1.index t = ![t.val, 5]
    ∧ win0_2.index t = ![t.val, 0] ∧ win0_3.index t = ![t.val, 0] ∧ win0_4.index t = ![t.val, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

/-- A tile of the projection, read whole, is the gate's rows. -/
theorem gateA_tile (c : Dev nD) (t : Fin cfg0.N) (j : S1024x1024.Idx) (i : S8192x1024.Idx) (hr : (i 0).val = t.val * 1024 + (j 0).val) (hs : (i 1).val = (j 1).val) :
    X0_0 m c t j = gateA (m ((c : Thread nD τ).loc main_arg0)) i := by
  unfold X0_0 Pipeline.Window.fill
  rw [dif_pos (moved0_0 t j)]
  pointwise [gateA]
  blk_point [iblk, V, idx_val t]

/-- A tile of the projection, read whole, is the gate's rows. -/
theorem gateB_tile (c : Dev nD) (t : Fin cfg0.N) (j : S1024x1024.Idx) (i : S8192x1024.Idx) (hr : (i 0).val = t.val * 1024 + (j 0).val) (hs : (i 1).val = (j 1).val) :
    X0_1 m c t j = gateB (m ((c : Thread nD τ).loc main_arg0)) i := by
  unfold X0_1 Pipeline.Window.fill
  rw [dif_pos (moved0_1 t j)]
  pointwise [gateB]
  blk_point [iblk, V, idx_val t]

/-- The product's tile is the cotangent's rows. -/
theorem cotangent_tile (c : Dev nD) (t : Fin cfg0.N) (j : S1024x1024.Idx) (i : S8192x1024.Idx) (hr : (i 0).val = t.val * 1024 + (j 0).val) (hs : (i 1).val = (j 1).val) :
    k0_pay3 (iblk m c 4 t) (iblk m c 5 t) j = cotangent (m ((c : Thread nD τ).loc main_arg3)) (m ((c : Thread nD τ).loc main_arg4)) i := by
  idx_vars i
  pointwise [k0_pay3, cotangent]
  blk_point [iblk, V, idx_val t]

theorem point6 (c : Dev nD) (t : Fin cfg0.N) (y) : (outsAt0 m c t).1 y = toGate (cotangent (m ((c : Thread nD τ).loc main_arg3)) (m ((c : Thread nD τ).loc main_arg4))) (m ((c : Thread nD τ).loc main_arg1)) (gateA (m ((c : Thread nD τ).loc main_arg0))) (((cfg0.win 6).blk t).view.emb y) := by
  unfold outsAt0; dsimp only; frame_out
  have h0 : ((((cfg0.win 6).blk t).view.emb y) 0).val = t.val * 1024 + (y 0).val := by blk_point [idx_val t]
  have h1 : ((((cfg0.win 6).blk t).view.emb y) 1).val = (y 1).val := by blk_point [idx_val t]
  revert h0 h1
  generalize ((cfg0.win 6).blk t).view.emb y = i
  intro h0 h1
  have hd := cotangent_tile m c t y i h0 h1
  have hg := gateA_tile m c t y i h0 h1
  have hy : iblk m c 2 t y = (m ((c : Thread nD τ).loc main_arg1)) i := by blk_point [iblk, V, idx_val t]
  pointwise [k0_pay4, k0_pay1, toGate, gateA, sigmoid, one, hd, hg, hy]
  simp only [Ideal.logistic]

theorem point7 (c : Dev nD) (t : Fin cfg0.N) (y) : (outsAt0 m c t).2.1 y = toGate (cotangent (m ((c : Thread nD τ).loc main_arg3)) (m ((c : Thread nD τ).loc main_arg4))) (m ((c : Thread nD τ).loc main_arg2)) (gateB (m ((c : Thread nD τ).loc main_arg0))) (((cfg0.win 7).blk t).view.emb y) := by
  unfold outsAt0; dsimp only; frame_out
  have h0 : ((((cfg0.win 7).blk t).view.emb y) 0).val = t.val * 1024 + (y 0).val := by blk_point [idx_val t]
  have h1 : ((((cfg0.win 7).blk t).view.emb y) 1).val = (y 1).val := by blk_point [idx_val t]
  revert h0 h1
  generalize ((cfg0.win 7).blk t).view.emb y = i
  intro h0 h1
  have hd := cotangent_tile m c t y i h0 h1
  have hg := gateB_tile m c t y i h0 h1
  have hy : iblk m c 3 t y = (m ((c : Thread nD τ).loc main_arg2)) i := by blk_point [iblk, V, idx_val t]
  pointwise [k0_pay5, k0_pay2, toGate, gateB, sigmoid, one, hd, hg, hy]
  simp only [Ideal.logistic]

theorem point8 (c : Dev nD) (t : Fin cfg0.N) (y) : (outsAt0 m c t).2.2.1 y = toBranch (cotangent (m ((c : Thread nD τ).loc main_arg3)) (m ((c : Thread nD τ).loc main_arg4))) (gateA (m ((c : Thread nD τ).loc main_arg0))) (((cfg0.win 8).blk t).view.emb y) := by
  unfold outsAt0; dsimp only; frame_out
  have h0 : ((((cfg0.win 8).blk t).view.emb y) 0).val = t.val * 1024 + (y 0).val := by blk_point [idx_val t]
  have h1 : ((((cfg0.win 8).blk t).view.emb y) 1).val = (y 1).val := by blk_point [idx_val t]
  revert h0 h1
  generalize ((cfg0.win 8).blk t).view.emb y = i
  intro h0 h1
  have hd := cotangent_tile m c t y i h0 h1
  have hg := gateA_tile m c t y i h0 h1
  have hy : iblk m c 2 t y = (m ((c : Thread nD τ).loc main_arg1)) i := by blk_point [iblk, V, idx_val t]
  pointwise [k0_pay6, k0_pay1, toBranch, gateA, sigmoid, one, hd, hg, hy]
  simp only [Ideal.logistic]

theorem point9 (c : Dev nD) (t : Fin cfg0.N) (y) : (outsAt0 m c t).2.2.2 y = toBranch (cotangent (m ((c : Thread nD τ).loc main_arg3)) (m ((c : Thread nD τ).loc main_arg4))) (gateB (m ((c : Thread nD τ).loc main_arg0))) (((cfg0.win 9).blk t).view.emb y) := by
  unfold outsAt0; dsimp only; frame_out
  have h0 : ((((cfg0.win 9).blk t).view.emb y) 0).val = t.val * 1024 + (y 0).val := by blk_point [idx_val t]
  have h1 : ((((cfg0.win 9).blk t).view.emb y) 1).val = (y 1).val := by blk_point [idx_val t]
  revert h0 h1
  generalize ((cfg0.win 9).blk t).view.emb y = i
  intro h0 h1
  have hd := cotangent_tile m c t y i h0 h1
  have hg := gateB_tile m c t y i h0 h1
  have hy : iblk m c 3 t y = (m ((c : Thread nD τ).loc main_arg2)) i := by blk_point [iblk, V, idx_val t]
  pointwise [k0_pay7, k0_pay2, toBranch, gateB, sigmoid, one, hd, hg, hy]
  simp only [Ideal.logistic]

theorem final6 (c : Dev nD) : (dats m 0 c).arrAt 6 (cfgs 0).N = toGate (cotangent (m ((c : Thread nD τ).loc main_arg3)) (m ((c : Thread nD τ).loc main_arg4))) (m ((c : Thread nD τ).loc main_arg1)) (gateA (m ((c : Thread nD τ).loc main_arg0))) := by
  refine (dats m 0 c).arrAt_eq_of_covers 6 _ (by decide +kernel) fun t hf y => ?_
  blk_simp; rw [after0_6]
  exact point6 m c t y

theorem final7 (c : Dev nD) : (dats m 0 c).arrAt 7 (cfgs 0).N = toGate (cotangent (m ((c : Thread nD τ).loc main_arg3)) (m ((c : Thread nD τ).loc main_arg4))) (m ((c : Thread nD τ).loc main_arg2)) (gateB (m ((c : Thread nD τ).loc main_arg0))) := by
  refine (dats m 0 c).arrAt_eq_of_covers 7 _ (by decide +kernel) fun t hf y => ?_
  blk_simp; rw [after0_7]
  exact point7 m c t y

theorem final8 (c : Dev nD) : (dats m 0 c).arrAt 8 (cfgs 0).N = toBranch (cotangent (m ((c : Thread nD τ).loc main_arg3)) (m ((c : Thread nD τ).loc main_arg4))) (gateA (m ((c : Thread nD τ).loc main_arg0))) := by
  refine (dats m 0 c).arrAt_eq_of_covers 8 _ (by decide +kernel) fun t hf y => ?_
  blk_simp; rw [after0_8]
  exact point8 m c t y

theorem final9 (c : Dev nD) : (dats m 0 c).arrAt 9 (cfgs 0).N = toBranch (cotangent (m ((c : Thread nD τ).loc main_arg3)) (m ((c : Thread nD τ).loc main_arg4))) (gateB (m ((c : Thread nD τ).loc main_arg0))) := by
  refine (dats m 0 c).arrAt_eq_of_covers 9 _ (by decide +kernel) fun t hf y => ?_
  blk_simp; rw [after0_9]
  exact point9 m c t y

end Kernel

section Claims

theorem reference_quiescent : quiescent_Reference10Ideal := fun m g _ =>
  (θ_run Cert.Reference10Ideal.defs _ _).mono (fun r h => ⟨fun c => (h c).2.2.2.2, sem_eq_zero_of_no_sems (by decide) r.2⟩) (Cert.Reference10Ideal.Value.run m g)

set_option maxHeartbeats 4000000 in
theorem agrees : algebraic_Kernel10Ideal_Reference10Ideal := by
  pair_intro
  · run_from Cert.Kernel10Ideal.Gen.run_main _ _
  · run_from Cert.Reference10Ideal.Value.run _ _
    · exact (final6 m c).symm
    · exact (final7 m c).symm
    · exact (final8 m c).symm
    · exact (final9 m c).symm

end Claims

end Cert.Proof.MixOutMergeBwd

end
-- ==== Proof.ConvLnOut.lean ====
/- The layer norm, its activation and the branch's output projection: what the tiled kernel leaves in its two output arrays. -/
module

public import proofs.«01_k».proof.Proof.Gen.Kernel11Ideal.Value
public import proofs.«01_k».proof.Proof.Gen.Reference11Ideal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.ConvLnOut

section Formula
open Cert.Reference11Ideal Cert.Reference11Ideal.Gen

abbrev one : FVec Ideal S8192x1024 .f32 := broadcastInDim S8192x1024 ![] bcast_S_S8192x1024 (constant S_ .f32 0x3F800000#32)

abbrev sigmoid (a : FVec Ideal S8192x1024 .f32) : FVec Ideal S8192x1024 .f32 := Host.divf one (addf one (Host.exp (Host.negf a)))

abbrev wide (z : FVec Ideal S8192x1024 .bf16) : FVec Ideal S8192x1024 .f32 := extf .f32 z bitsLt_bf16_f32

/-- A row's mean, kept as one column. -/
abbrev mean (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_))
    (broadcastInDim S8192x1 ![] bcast_S_S8192x1 (constant S_ .f32 0x44800000#32))

abbrev along (x : FVec Ideal S8192x1 .f32) : FVec Ideal S8192x1024 .f32 := broadcastInDim S8192x1024 ![0, 1] bcast_S8192x1_S8192x1024_0_1 x

abbrev down (g : FVec Ideal S1x1024 .f32) : FVec Ideal S8192x1024 .f32 := broadcastInDim S8192x1024 ![0, 1] bcast_S1x1024_S8192x1024_0_1 g

abbrev centred (x : FVec Ideal S8192x1024 .f32) : FVec Ideal S8192x1024 .f32 := subf x (along (mean x))

/-- The layer norm with its gain and offset. -/
abbrev normed (x : FVec Ideal S8192x1024 .f32) (g b : FVec Ideal S1x1024 .f32) : FVec Ideal S8192x1024 .f32 :=
  addf (mulf (mulf (centred x) (along (Host.rsqrt (addf (mean (mulf (centred x) (centred x))) (broadcastInDim S8192x1 ![] bcast_S_S8192x1 (constant S_ .f32 0x358637BD#32)))))) (down g)) (down b)

def active (z : FVec Ideal S8192x1024 .bf16) (g b : FVec Ideal S1x1024 .f32) : FVec Ideal S8192x1024 .f32 :=
  mulf (normed (wide z) g b) (sigmoid (normed (wide z) g b))

abbrev rounded (z : FVec Ideal S8192x1024 .bf16) (g b : FVec Ideal S1x1024 .f32) : FVec Ideal S8192x1024 .bf16 := truncf .bf16 (active z g b) bitsLt_bf16_f32

abbrev projected (z : FVec Ideal S8192x1024 .bf16) (g b : FVec Ideal S1x1024 .f32) (w : FVec Ideal S1024x1024 .bf16) : FVec Ideal S8192x1024 .bf16 :=
  truncf .bf16 (Host.dotGeneral dot_S8192x1024_S1024x1024_S8192x1024_1_0_0_1_n_n none (active z g b) (extf .f32 w bitsLt_bf16_f32)) bitsLt_bf16_f32

end Formula

section Kernel
open Cert.Kernel11Ideal Cert.Kernel11Ideal.Gen

variable (m : (ℓ : Loc nD τ sig) → Buf (Elt Ideal) ℓ)

theorem idx_val : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The normed and activated tile is that array's rows. -/
theorem tile (c : Dev nD) (t : Fin cfg0.N) (j : S1024x1024.Idx) (i : S8192x1024.Idx) (hr : (i 0).val = t.val * 1024 + (j 0).val) (hs : (i 1).val = (j 1).val) :
    k0_pay1 (iblk m c 0 t) (iblk m c 1 t) (iblk m c 2 t) j = active (m ((c : Thread nD τ).loc main_arg0)) (m ((c : Thread nD τ).loc main_arg1)) (m ((c : Thread nD τ).loc main_arg2)) i := by
  have hz : ∀ x : Fin 1024, iblk m c 0 t (ix2 (j 0) x) = (m ((c : Thread nD τ).loc main_arg0)) (ix2 (i 0) x) := fun x => by blk_point [iblk, V, idx_val t]
  have hg : iblk m c 1 t (ix2 0 (j 1)) = (m ((c : Thread nD τ).loc main_arg1)) (ix2 0 (i 1)) := by blk_point [iblk, V, idx_val t]
  have hb : iblk m c 2 t (ix2 0 (j 1)) = (m ((c : Thread nD τ).loc main_arg2)) (ix2 0 (i 1)) := by blk_point [iblk, V, idx_val t]
  have hj : iblk m c 0 t j = (m ((c : Thread nD τ).loc main_arg0)) i := by blk_point [iblk, V, idx_val t]
  have hij : i 1 = j 1 := Fin.ext hs
  have ej : j = ix2 (j 0) (j 1) := by funext a; match a with | 0 => rfl | 1 => rfl
  have ei : i = ix2 (i 0) (i 1) := by funext a; match a with | 0 => rfl | 1 => rfl
  rw [ej, ei]
  pointwise [k0_pay1, active, normed, centred, mean, along, down, wide, sigmoid, one]
  simp only [Ideal.logistic]
  simp only [hz, hj, hg, hb, hij]

theorem point4 (c : Dev nD) (t : Fin cfg0.N) (y) : out0_4 (iblk m c 0 t) (iblk m c 1 t) (iblk m c 2 t) (iblk m c 3 t) y = rounded (m ((c : Thread nD τ).loc main_arg0)) (m ((c : Thread nD τ).loc main_arg1)) (m ((c : Thread nD τ).loc main_arg2)) (((cfg0.win 4).blk t).view.emb y) := by
  frame_out
  pointwise [k0_pay2, rounded]
  refine tile m c t y _ ?_ ?_ <;> blk_point [idx_val t]

theorem point5 (c : Dev nD) (t : Fin cfg0.N) (y) : out0_5 (iblk m c 0 t) (iblk m c 1 t) (iblk m c 2 t) (iblk m c 3 t) y = projected (m ((c : Thread nD τ).loc main_arg0)) (m ((c : Thread nD τ).loc main_arg1)) (m ((c : Thread nD τ).loc main_arg2)) (m ((c : Thread nD τ).loc main_arg3)) (((cfg0.win 5).blk t).view.emb y) := by
  frame_out

  have h0 : ((((cfg0.win 5).blk t).view.emb y) 0).val = t.val * 1024 + (y 0).val := by blk_point [idx_val t]
  have h1 : ((((cfg0.win 5).blk t).view.emb y) 1).val = (y 1).val := by blk_point [idx_val t]
  revert h0 h1
  generalize ((cfg0.win 5).blk t).view.emb y = i
  intro h0 h1
  have hw : ∀ x : Fin 1024, iblk m c 3 t (ix2 x (y 1)) = (m ((c : Thread nD τ).loc main_arg3)) (ix2 x (i 1)) := fun x => by blk_point [iblk, V, idx_val t]
  pointwise [k0_pay3, projected]
  exact Finset.sum_congr rfl fun x _ => congrArg₂ (· * ·) (tile m c t _ _ h0 rfl) (hw x)

theorem final4 (c : Dev nD) : (dats m 0 c).arrAt 4 (cfgs 0).N = rounded (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  exact point4 m c t y

theorem final5 (c : Dev nD) : (dats m 0 c).arrAt 5 (cfgs 0).N = projected (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point5 m c t y

end Kernel

section Claims

theorem reference_quiescent : quiescent_Reference11Ideal := fun m g _ =>
  (θ_run Cert.Reference11Ideal.defs _ _).mono (fun r h => ⟨fun c => (h c).2.2, sem_eq_zero_of_no_sems (by decide) r.2⟩) (Cert.Reference11Ideal.Value.run m g)

set_option maxHeartbeats 4000000 in
theorem agrees : algebraic_Kernel11Ideal_Reference11Ideal := by
  pair_intro
  · run_from Cert.Kernel11Ideal.Gen.run_main _ _
  · run_from Cert.Reference11Ideal.Value.run _ _
    obtain ⟨h0, h1, h2, h3⟩ := hagree c
    · unfold Cert.Reference11Ideal.Value.res_main_v24
      rw [h0, h1, h2]
      exact (final4 m c).symm
    · obtain ⟨h0, h1, h2, h3⟩ := hagree c
      unfold Cert.Reference11Ideal.Value.res_main_v27
      rw [h0, h1, h2, h3]
      exact (final5 m c).symm

end Claims

end Cert.Proof.ConvLnOut

end
-- ==== Proof.GlaNormOut.lean ====
/- The recurrence's output, normed head by head, gated and projected: what the tiled kernel leaves in its two output arrays. -/
module

public import proofs.«01_k».proof.Proof.Gen.Kernel12Ideal.Value
public import proofs.«01_k».proof.Proof.Gen.Reference12Ideal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.GlaNormOut

section Formula
open Cert.Reference12Ideal Cert.Reference12Ideal.Gen

abbrev one : FVec Ideal S8192x1024 .f32 := broadcastInDim S8192x1024 ![] bcast_S_S8192x1024 (constant S_ .f32 0x3F800000#32)

abbrev sigmoid (a : FVec Ideal S8192x1024 .f32) : FVec Ideal S8192x1024 .f32 := Host.divf one (addf one (Host.exp (Host.negf a)))

/-- The output gate: its columns of the projection, the latent rows. -/
abbrev gate (p : FVec Ideal S9216x7296 .bf16) : FVec Ideal S8192x1024 .f32 :=
  extf .f32 (extractStridedSlice S8192x1024 ![0, 3072] p slices_S9216x7296_S8192x1024_0_3072) bitsLt_bf16_f32

/-- The two directions' sum, the heads apart. -/
abbrev heads (a b : FVec Ideal S8192x1024 .bf16) : FVec Ideal S8192x4x256 .f32 :=
  shapeCast _ (addf (extf .f32 a bitsLt_bf16_f32) (extf .f32 b bitsLt_bf16_f32)) shapeCasts_S8192x1024_S8192x4x256

/-- A head's mean square, kept as one column. -/
abbrev meanSq (h : FVec Ideal S8192x4x256 .f32) : FVec Ideal S8192x4x1 .f32 :=
  Host.divf (broadcastInDim S8192x4x1 ![0, 1] bcast_S8192x4_S8192x4x1_0_1 (Host.reduceAdd (mulf h h) (constant S_ .f32 0x00000000#32) reducesTo_S8192x4x256_S8192x4_d2 h_S_))
    (broadcastInDim S8192x4x1 ![] bcast_S_S8192x4x1 (constant S_ .f32 0x43800000#32))

abbrev headNormed (h : FVec Ideal S8192x4x256 .f32) : FVec Ideal S8192x4x256 .f32 :=
  mulf h (broadcastInDim S8192x4x256 ![0, 1, 2] bcast_S8192x4x1_S8192x4x256_0_1_2 (Host.rsqrt (addf (meanSq h) (broadcastInDim S8192x4x1 ![] bcast_S_S8192x4x1 (constant S_ .f32 0x358637BD#32)))))

def gated (a b : FVec Ideal S8192x1024 .bf16) (p : FVec Ideal S9216x7296 .bf16) (g : FVec Ideal S1x1024 .f32) : FVec Ideal S8192x1024 .f32 :=
  mulf (mulf (shapeCast _ (headNormed (heads a b)) shapeCasts_S8192x4x256_S8192x1024) (broadcastInDim S8192x1024 ![0, 1] bcast_S1x1024_S8192x1024_0_1 g))
    (mulf (gate p) (sigmoid (gate p)))

abbrev rounded (a b : FVec Ideal S8192x1024 .bf16) (p : FVec Ideal S9216x7296 .bf16) (g : FVec Ideal S1x1024 .f32) : FVec Ideal S8192x1024 .bf16 := truncf .bf16 (gated a b p g) bitsLt_bf16_f32

abbrev projected (a b : FVec Ideal S8192x1024 .bf16) (p : FVec Ideal S9216x7296 .bf16) (g : FVec Ideal S1x1024 .f32) (w : FVec Ideal S1024x1024 .bf16) : FVec Ideal S8192x1024 .bf16 :=
  truncf .bf16 (Host.dotGeneral dot_S8192x1024_S1024x1024_S8192x1024_1_0_0_1_n_n none (gated a b p g) (extf .f32 w bitsLt_bf16_f32)) bitsLt_bf16_f32

end Formula

section Kernel
open Cert.Kernel12Ideal Cert.Kernel12Ideal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 3]
    ∧ win0_3.index t = ![0, 0] ∧ win0_4.index t = ![0, 0] ∧ win0_5.index t = ![t.val, 0] ∧ win0_6.index t = ![t.val, 0] :=
  (by decide +kernel : ∀ t : Fin grid0.N, _)

/-- A tile of the projection, read whole, is the gate's rows. -/
theorem gate_tile (c : Dev nD) (t : Fin cfg0.N) (j : S1024x1024.Idx) (i : S8192x1024.Idx) (hr : (i 0).val = t.val * 1024 + (j 0).val) (hs : (i 1).val = (j 1).val) :
    X0_2 m c t j = gate (m ((c : Thread nD τ).loc main_arg2)) i := by
  unfold X0_2 Pipeline.Window.fill
  rw [dif_pos (moved0_2 t j)]
  pointwise [gate]
  blk_point [iblk, V, idx_val t]

abbrev tiled (a b p : Vec Ideal S1024x1024 .bf16) (g : Vec Ideal S1x1024 .f32) : FVec Ideal S1024x1024 .f32 :=
  k0_pay1 p g (k0_pay4 a b) (k0_pay5 a b) (k0_pay6 a b) (k0_pay7 a b) (k0_pay8 a b)

/-- The gated tile is the gated array's rows. -/
theorem tile (c : Dev nD) (t : Fin cfg0.N) (j : S1024x1024.Idx) (i : S8192x1024.Idx) (hr : (i 0).val = t.val * 1024 + (j 0).val) (hs : (i 1).val = (j 1).val) :
    tiled (iblk m c 0 t) (iblk m c 1 t) (X0_2 m c t) (iblk m c 3 t) j = gated (m ((c : Thread nD τ).loc main_arg0)) (m ((c : Thread nD τ).loc main_arg1)) (m ((c : Thread nD τ).loc main_arg2)) (m ((c : Thread nD τ).loc main_arg3)) i := by
  have hp := gate_tile m c t j i hr hs
  have ha : ∀ x : Fin 1024, iblk m c 0 t (ix2 (j 0) x) = (m ((c : Thread nD τ).loc main_arg0)) (ix2 (i 0) x) := fun x => by blk_point [iblk, V, idx_val t]
  have hb : ∀ x : Fin 1024, iblk m c 1 t (ix2 (j 0) x) = (m ((c : Thread nD τ).loc main_arg1)) (ix2 (i 0) x) := fun x => by blk_point [iblk, V, idx_val t]
  have hg : iblk m c 3 t (ix2 0 (j 1)) = (m ((c : Thread nD τ).loc main_arg3)) (ix2 0 (i 1)) := by blk_point [iblk, V, idx_val t]
  pointwise [tiled, k0_pay1, k0_pay4, k0_pay5, k0_pay6, k0_pay7, k0_pay8, gated, headNormed, meanSq, heads, gate, sigmoid, one, hp, ha, hb, hg]
  simp only [Ideal.logistic]
  have ha' : iblk m c 0 t j = (m ((c : Thread nD τ).loc main_arg0)) i := by blk_point [iblk, V, idx_val t]
  have hb' : iblk m c 1 t j = (m ((c : Thread nD τ).loc main_arg1)) i := by blk_point [iblk, V, idx_val t]
  rw [ha', hb']
  have hi := (i 1).isLt
  repeat' split
  all_goals blk_point []

theorem point5 (c : Dev nD) (t : Fin cfg0.N) (y) : (outsAt0 m c t).1 y = rounded (m ((c : Thread nD τ).loc main_arg0)) (m ((c : Thread nD τ).loc main_arg1)) (m ((c : Thread nD τ).loc main_arg2)) (m ((c : Thread nD τ).loc main_arg3)) (((cfg0.win 5).blk t).view.emb y) := by
  unfold outsAt0; dsimp only; frame_out
  have h0 : ((((cfg0.win 5).blk t).view.emb y) 0).val = t.val * 1024 + (y 0).val := by blk_point [idx_val t]
  have h1 : ((((cfg0.win 5).blk t).view.emb y) 1).val = (y 1).val := by blk_point [idx_val t]
  revert h0 h1
  generalize ((cfg0.win 5).blk t).view.emb y = i
  intro h0 h1
  pointwise [k0_pay2, rounded]
  exact tile m c t y _ h0 h1

theorem point6 (c : Dev nD) (t : Fin cfg0.N) (y) : (outsAt0 m c t).2 y = projected (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  unfold outsAt0; dsimp only; frame_out
  have h0 : ((((cfg0.win 6).blk t).view.emb y) 0).val = t.val * 1024 + (y 0).val := by blk_point [idx_val t]
  have h1 : ((((cfg0.win 6).blk t).view.emb y) 1).val = (y 1).val := by blk_point [idx_val t]
  revert h0 h1
  generalize ((cfg0.win 6).blk t).view.emb y = i
  intro h0 h1
  have hw : ∀ x : Fin 1024, iblk m c 4 t (ix2 x (y 1)) = (m ((c : Thread nD τ).loc main_arg4)) (ix2 x (i 1)) := fun x => by blk_point [iblk, V, idx_val t]
  pointwise [k0_pay3, projected]
  exact Finset.sum_congr rfl fun x _ => congrArg₂ (· * ·) (tile m c t _ _ h0 rfl) (hw x)

theorem final5 (c : Dev nD) : (dats m 0 c).arrAt 5 (cfgs 0).N = rounded (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point5 m c t y

theorem final6 (c : Dev nD) : (dats m 0 c).arrAt 6 (cfgs 0).N = projected (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  exact point6 m c t y

end Kernel

section Claims

theorem reference_quiescent : quiescent_Reference12Ideal := fun m g _ =>
  (θ_run Cert.Reference12Ideal.defs _ _).mono (fun r h => ⟨fun c => (h c).2.2, sem_eq_zero_of_no_sems (by decide) r.2⟩) (Cert.Reference12Ideal.Value.run m g)

set_option maxHeartbeats 4000000 in
theorem agrees : algebraic_Kernel12Ideal_Reference12Ideal := by
  pair_intro
  · run_from Cert.Kernel12Ideal.Gen.run_main _ _
  · run_from Cert.Reference12Ideal.Value.run _ _
    · exact (final5 m c).symm
    · exact (final6 m c).symm

end Claims

end Cert.Proof.GlaNormOut

end
-- ==== Proof.MergeMixOut.lean ====
/- The two branches merged by their gates and projected: what the tiled kernel leaves in its two output arrays. -/
module

public import proofs.«01_k».proof.Proof.Gen.Kernel13Ideal.Value
public import proofs.«01_k».proof.Proof.Gen.Reference13Ideal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.MergeMixOut

section Formula
open Cert.Reference13Ideal Cert.Reference13Ideal.Gen

abbrev one : FVec Ideal S8192x1024 .f32 := broadcastInDim S8192x1024 ![] bcast_S_S8192x1024 (constant S_ .f32 0x3F800000#32)

abbrev sigmoid (a : FVec Ideal S8192x1024 .f32) : FVec Ideal S8192x1024 .f32 := Host.divf one (addf one (Host.exp (Host.negf a)))

/-- The first branch's gate: its columns of the projection, the latent rows. -/
abbrev gateA (p : FVec Ideal S9216x7296 .bf16) : FVec Ideal S8192x1024 .f32 :=
  extf .f32 (extractStridedSlice S8192x1024 ![0, 4096] p slices_S9216x7296_S8192x1024_0_4096) bitsLt_bf16_f32

/-- The second branch's gate. -/
abbrev gateB (p : FVec Ideal S9216x7296 .bf16) : FVec Ideal S8192x1024 .f32 :=
  extf .f32 (extractStridedSlice S8192x1024 ![0, 5120] p slices_S9216x7296_S8192x1024_0_5120) bitsLt_bf16_f32

/-- The two branches, each by the sigmoid of its gate. -/
def merged (p : FVec Ideal S9216x7296 .bf16) (yc yg : FVec Ideal S8192x1024 .bf16) : FVec Ideal S8192x1024 .f32 :=
  addf (mulf (sigmoid (gateA p)) (extf .f32 yc bitsLt_bf16_f32)) (mulf (sigmoid (gateB p)) (extf .f32 yg bitsLt_bf16_f32))

abbrev rounded (p : FVec Ideal S9216x7296 .bf16) (yc yg : FVec Ideal S8192x1024 .bf16) : FVec Ideal S8192x1024 .bf16 := truncf .bf16 (merged p yc yg) bitsLt_bf16_f32

abbrev projected (p : FVec Ideal S9216x7296 .bf16) (yc yg : FVec Ideal S8192x1024 .bf16) (w : FVec Ideal S1024x1024 .bf16) : FVec Ideal S8192x1024 .f32 :=
  Host.dotGeneral dot_S8192x1024_S1024x1024_S8192x1024_1_0_0_1_n_n none (merged p yc yg) (extf .f32 w bitsLt_bf16_f32)

end Formula

section Kernel
open Cert.Kernel13Ideal Cert.Kernel13Ideal.Gen

variable (m : (ℓ : Loc nD τ sig) → Buf (Elt Ideal) ℓ)

theorem idx_val : ∀ t : Fin cfg0.N, win0_0.index t = ![t.val, 4] ∧ win0_1.index t = ![t.val, 5]
    ∧ win0_2.index t = ![t.val, 0] ∧ win0_3.index t = ![t.val, 0] ∧ win0_4.index t = ![0, 0]
    ∧ win0_5.index t = ![t.val, 0] ∧ win0_6.index t = ![t.val, 0] :=
  (by decide +kernel : ∀ t : Fin grid0.N, _)

/-- A tile of the projection, read whole, is the gate's rows. -/
theorem gateA_tile (c : Dev nD) (t : Fin cfg0.N) (j : S1024x1024.Idx) (i : S8192x1024.Idx) (hr : (i 0).val = t.val * 1024 + (j 0).val) (hs : (i 1).val = (j 1).val) :
    X0_0 m c t j = gateA (m ((c : Thread nD τ).loc main_arg0)) i := by
  unfold X0_0 Pipeline.Window.fill
  rw [dif_pos (moved0_0 t j)]
  pointwise [gateA]
  blk_point [iblk, V, idx_val t]

/-- A tile of the projection, read whole, is the gate's rows. -/
theorem gateB_tile (c : Dev nD) (t : Fin cfg0.N) (j : S1024x1024.Idx) (i : S8192x1024.Idx) (hr : (i 0).val = t.val * 1024 + (j 0).val) (hs : (i 1).val = (j 1).val) :
    X0_1 m c t j = gateB (m ((c : Thread nD τ).loc main_arg0)) i := by
  unfold X0_1 Pipeline.Window.fill
  rw [dif_pos (moved0_1 t j)]
  pointwise [gateB]
  blk_point [iblk, V, idx_val t]

/-- The merged tile is the merged array's rows. -/
theorem tile (c : Dev nD) (t : Fin cfg0.N) (j : S1024x1024.Idx) (i : S8192x1024.Idx) (hr : (i 0).val = t.val * 1024 + (j 0).val) (hs : (i 1).val = (j 1).val) :
    k0_pay1 (X0_0 m c t) (X0_1 m c t) (iblk m c 2 t) (iblk m c 3 t) j = merged (m ((c : Thread nD τ).loc main_arg0)) (m ((c : Thread nD τ).loc main_arg1)) (m ((c : Thread nD τ).loc main_arg2)) i := by
  have ha := gateA_tile m c t j i hr hs
  have hb := gateB_tile m c t j i hr hs
  have hc : iblk m c 2 t j = (m ((c : Thread nD τ).loc main_arg1)) i := by blk_point [iblk, V, idx_val t]
  have hg : iblk m c 3 t j = (m ((c : Thread nD τ).loc main_arg2)) i := by blk_point [iblk, V, idx_val t]
  pointwise [k0_pay1, merged, sigmoid, gateA, gateB, one, ha, hb, hc, hg]
  simp only [Ideal.logistic]

theorem point5 (c : Dev nD) (t : Fin cfg0.N) (y) : (outsAt0 m c t).1 y = rounded (m ((c : Thread nD τ).loc main_arg0)) (m ((c : Thread nD τ).loc main_arg1)) (m ((c : Thread nD τ).loc main_arg2)) (((cfg0.win 5).blk t).view.emb y) := by
  unfold outsAt0; dsimp only; frame_out
  pointwise [k0_pay3, rounded]
  refine tile m c t y _ ?_ ?_ <;> blk_point [idx_val t]

theorem point6 (c : Dev nD) (t : Fin cfg0.N) (y) : (outsAt0 m c t).2 y = projected (m ((c : Thread nD τ).loc main_arg0)) (m ((c : Thread nD τ).loc main_arg1)) (m ((c : Thread nD τ).loc main_arg2)) (m ((c : Thread nD τ).loc main_arg3)) (((cfg0.win 6).blk t).view.emb y) := by
  unfold outsAt0; dsimp only; frame_out

  have h0 : ((((cfg0.win 6).blk t).view.emb y) 0).val = t.val * 1024 + (y 0).val := by blk_point [idx_val t]
  have h1 : ((((cfg0.win 6).blk t).view.emb y) 1).val = (y 1).val := by blk_point [idx_val t]
  revert h0 h1
  generalize ((cfg0.win 6).blk t).view.emb y = i
  intro h0 h1
  have hw : ∀ x : Fin 1024, iblk m c 4 t (ix2 x (y 1)) = (m ((c : Thread nD τ).loc main_arg3)) (ix2 x (i 1)) := fun x => by blk_point [iblk, V, idx_val t]
  pointwise [k0_pay2, projected]
  exact Finset.sum_congr rfl fun x _ => congrArg₂ (· * ·) (tile m c t _ _ h0 rfl) (hw x)

theorem final5 (c : Dev nD) : (dats m 0 c).arrAt 5 (cfgs 0).N = rounded (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  exact point5 m c t y

theorem final6 (c : Dev nD) : (dats m 0 c).arrAt 6 (cfgs 0).N = projected (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]
  exact point6 m c t y

end Kernel

section Claims

theorem reference_quiescent : quiescent_Reference13Ideal := fun m g _ =>
  (θ_run Cert.Reference13Ideal.defs _ _).mono (fun r h => ⟨fun c => (h c).2.2, sem_eq_zero_of_no_sems (by decide) r.2⟩) (Cert.Reference13Ideal.Value.run m g)

set_option maxHeartbeats 4000000 in
theorem agrees : algebraic_Kernel13Ideal_Reference13Ideal := by
  pair_intro
  · run_from Cert.Kernel13Ideal.Gen.run_main _ _
  · run_from Cert.Reference13Ideal.Value.run _ _
    · exact (final5 m c).symm
    · exact (final6 m c).symm

end Claims

end Cert.Proof.MergeMixOut

end
-- ==== Proof.MixIn.lean ====
/- The first feed-forward block's product, its gated sum and the modulated norm, over the latents' and the context's rows: what the tiled kernel leaves in its three output arrays. -/
module

public import proofs.«01_k».proof.Proof.Gen.Kernel14Ideal.Value
public import proofs.«01_k».proof.Proof.Gen.Reference14Ideal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.MixIn

section Formula
open Cert.Reference14Ideal Cert.Reference14Ideal.Gen

/-- The product's rows of the latents. -/
def fL (a2 : FVec Ideal S9216x2816 .bf16) (a7 : FVec Ideal S2816x1024 .bf16) : FVec Ideal S4x2048x1024 .f32 :=
  shapeCast _ (Host.dotGeneral dot_S8192x2816_S2816x1024_S8192x1024_1_0_0_1_n_n none
    (extractStridedSlice S8192x2816 ![0, 0] (extf .f32 a2 bitsLt_bf16_f32) slices_S9216x2816_S8192x2816_0_0) (extf .f32 a7 bitsLt_bf16_f32)) shapeCasts_S8192x1024_S4x2048x1024

/-- The product's rows of the context. -/
def fC (a2 : FVec Ideal S9216x2816 .bf16) (a7 : FVec Ideal S2816x1024 .bf16) : FVec Ideal S4x256x1024 .f32 :=
  shapeCast _ (Host.dotGeneral dot_S1024x2816_S2816x1024_S1024x1024_1_0_0_1_n_n none
    (extractStridedSlice S1024x2816 ![8192, 0] (extf .f32 a2 bitsLt_bf16_f32) slices_S9216x2816_S1024x2816_8192_0) (extf .f32 a7 bitsLt_bf16_f32)) shapeCasts_S1024x1024_S4x256x1024

/-- The four examples' vectors. -/
abbrev four (g : FVec Ideal S5x1x1024 .f32) : FVec Ideal S4x1x1024 .f32 := extractStridedSlice S4x1x1024 ![0, 0, 0] g slices_S5x1x1024_S4x1x1024_0_0_0

/-- The context's vector. -/
abbrev last (g : FVec Ideal S5x1x1024 .f32) : FVec Ideal S1x1024 .f32 := shapeCast _ (extractStridedSlice S1x1x1024 ![4, 0, 0] g slices_S5x1x1024_S1x1x1024_4_0_0) shapeCasts_S1x1x1024_S1x1024

/-- The latents with half the gated product added. -/
def x1L (a0 : FVec Ideal S4x2048x1024 .f32) (a2 : FVec Ideal S9216x2816 .bf16) (a3 : FVec Ideal S5x1x1024 .f32) (a7 : FVec Ideal S2816x1024 .bf16) : FVec Ideal S4x2048x1024 .f32 :=
  addf a0 (mulf (broadcastInDim S4x2048x1024 ![0, 1, 2] bcast_S4x1x1024_S4x2048x1024_0_1_2 (mulf (broadcastInDim S4x1x1024 ![] bcast_S_S4x1x1024 (constant S_ .f32 0x3F000000#32)) (four a3))) (fL a2 a7))

/-- The context with half the gated product added. -/
def x1C (a1 : FVec Ideal S4x256x1024 .f32) (a2 : FVec Ideal S9216x2816 .bf16) (a3 : FVec Ideal S5x1x1024 .f32) (a7 : FVec Ideal S2816x1024 .bf16) : FVec Ideal S4x256x1024 .f32 :=
  addf a1 (mulf (broadcastInDim S4x256x1024 ![0, 1, 2] bcast_S1x1x1024_S4x256x1024_0_1_2 (broadcastInDim S1x1x1024 ![1, 2] bcast_S1x1024_S1x1x1024_1_2
    (mulf (broadcastInDim S1x1024 ![] bcast_S_S1x1024 (constant S_ .f32 0x3F000000#32)) (last a3)))) (fC a2 a7))

/-- The latents normalised and modulated. -/
def umL (x : FVec Ideal S4x2048x1024 .f32) (a4 a5 : FVec Ideal S5x1x1024 .f32) (a6 : FVec Ideal S1x1024 .f32) : FVec Ideal S4x2048x1024 .f32 :=
  addf (mulf (mulf (mulf x (broadcastInDim S4x2048x1024 ![0, 1, 2] bcast_S4x2048x1_S4x2048x1024_0_1_2 (Host.rsqrt (addf (Host.divf (broadcastInDim S4x2048x1 ![0, 1] bcast_S4x2048_S4x2048x1_0_1
    (Host.reduceAdd (mulf x x) (constant S_ .f32 0x00000000#32) reducesTo_S4x2048x1024_S4x2048_d2 h_S_)) (broadcastInDim S4x2048x1 ![] bcast_S_S4x2048x1 (constant S_ .f32 0x44800000#32)))
    (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![1, 2] bcast_S1x1024_S1x1x1024_1_2 a6)))
    (broadcastInDim S4x2048x1024 ![0, 1, 2] bcast_S4x1x1024_S4x2048x1024_0_1_2 (addf (broadcastInDim S4x1x1024 ![] bcast_S_S4x1x1024 (constant S_ .f32 0x3F800000#32)) (four a5))))
    (broadcastInDim S4x2048x1024 ![0, 1, 2] bcast_S4x1x1024_S4x2048x1024_0_1_2 (four a4))

/-- The context normalised and modulated. -/
def umC (x : FVec Ideal S4x256x1024 .f32) (a4 a5 : FVec Ideal S5x1x1024 .f32) (a6 : FVec Ideal S1x1024 .f32) : FVec Ideal S4x256x1024 .f32 :=
  addf (mulf (mulf (mulf x (broadcastInDim S4x256x1024 ![0, 1, 2] bcast_S4x256x1_S4x256x1024_0_1_2 (Host.rsqrt (addf (Host.divf (broadcastInDim S4x256x1 ![0, 1] bcast_S4x256_S4x256x1_0_1
    (Host.reduceAdd (mulf x x) (constant S_ .f32 0x00000000#32) reducesTo_S4x256x1024_S4x256_d2 h_S_)) (broadcastInDim S4x256x1 ![] bcast_S_S4x256x1 (constant S_ .f32 0x44800000#32)))
    (broadcastInDim S4x256x1 ![] bcast_S_S4x256x1 (constant S_ .f32 0x358637BD#32)))))) (broadcastInDim S4x256x1024 ![0, 1, 2] bcast_S1x1x1024_S4x256x1024_0_1_2 (broadcastInDim S1x1x1024 ![1, 2] bcast_S1x1024_S1x1x1024_1_2 a6)))
    (broadcastInDim S4x256x1024 ![0, 1, 2] bcast_S1x1x1024_S4x256x1024_0_1_2 (broadcastInDim S1x1x1024 ![1, 2] bcast_S1x1024_S1x1x1024_1_2
      (addf (broadcastInDim S1x1024 ![] bcast_S_S1x1024 (constant S_ .f32 0x3F800000#32)) (last a5)))))
    (broadcastInDim S4x256x1024 ![0, 1, 2] bcast_S1x1x1024_S4x256x1024_0_1_2 (broadcastInDim S1x1x1024 ![1, 2] bcast_S1x1024_S1x1x1024_1_2 (last a4)))

/-- The latents' rows, then the context's. -/
def stacked (u : FVec Ideal S4x2048x1024 .f32) (v : FVec Ideal S4x256x1024 .f32) : FVec Ideal S9216x1024 .f32 :=
  concatenate S9216x1024 0 [⟨S8192x1024, shapeCast _ u shapeCasts_S4x2048x1024_S8192x1024⟩, ⟨S1024x1024, shapeCast _ v shapeCasts_S4x256x1024_S1024x1024⟩] concatenates_S8192x1024_S1024x1024_S9216x1024_d0

theorem stacked_latents (u : FVec Ideal S4x2048x1024 .f32) (v : FVec Ideal S4x256x1024 .f32) (i : S9216x1024.Idx) (h : (i 0).val < 8192) :
    stacked u v i = u (ix3 ⟨(i 0).val / 2048, by omega⟩ ⟨(i 0).val % 2048, by omega⟩ (i 1)) := by
  pointwise [stacked]
  rw [dif_pos h]

theorem stacked_context (u : FVec Ideal S4x2048x1024 .f32) (v : FVec Ideal S4x256x1024 .f32) (i : S9216x1024.Idx) (h : ¬ (i 0).val < 8192) :
    stacked u v i = v (ix3 ⟨((i 0).val - 8192) / 256, by have := (i 0).isLt; change (i 0).val < 9216 at this; omega⟩ ⟨((i 0).val - 8192) % 256, by omega⟩ (i 1)) := by
  pointwise [stacked]
  rw [dif_neg h]

end Formula

section Kernel
open Cert.Kernel14Ideal Cert.Kernel14Ideal.Gen

variable (m : (ℓ : Loc nD τ sig) → Buf (Elt Ideal) ℓ)

theorem idx_val : ∀ t : Fin cfg0.N, win0_0.index t = ![min t.val 15, 0] ∧ win0_1.index t = ![t.val - 16, 0] ∧ win0_2.index t = ![t.val, 0]
    ∧ win0_3.index t = ![t.val / 4, 0, 0] ∧ win0_4.index t = ![t.val / 4, 0, 0] ∧ win0_5.index t = ![t.val / 4, 0, 0]
    ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

theorem latents : ∀ t : Fin cfg0.N, t.val < 16 → Scalar.cmpi .slt (BitVec.ofNat 32 (grid0.coords t 0).val) 16#32 = 1#1 :=
  (by decide +kernel : ∀ t : Fin grid0.N, t.val < 16 → Scalar.cmpi .slt (BitVec.ofNat 32 (grid0.coords t 0).val) 16#32 = 1#1)

theorem context : ∀ t : Fin cfg0.N, ¬ t.val < 16 → Scalar.cmpi .slt (BitVec.ofNat 32 (grid0.coords t 0).val) 16#32 = 0#1 :=
  (by decide +kernel : ∀ t : Fin grid0.N, ¬ t.val < 16 → Scalar.cmpi .slt (BitVec.ofNat 32 (grid0.coords t 0).val) 16#32 = 0#1)

/-- The kernel's tile of the sum. -/
abbrev sumTile (c : Dev nD) (t : Fin cfg0.N) : FVec Ideal S512x1024 .f32 :=
  k0_pay6 (grid0.coords t) (iblk m c 0 t) (iblk m c 1 t) (iblk m c 2 t) (iblk m c 3 t) (iblk m c 7 t)

/-- The kernel's tile of the modulated rows. -/
abbrev modTile (c : Dev nD) (t : Fin cfg0.N) : FVec Ideal S512x1024 .bf16 :=
  k0_pay1 (k0_pay3 (iblk m c 4 t)) (k0_pay4 (iblk m c 5 t)) (iblk m c 6 t) (sumTile m c t)
    (k0_pay7 (grid0.coords t) (iblk m c 0 t) (iblk m c 1 t) (iblk m c 2 t) (iblk m c 3 t) (iblk m c 7 t))

theorem fL_tile (c : Dev nD) (t : Fin cfg0.N) (ht : t.val < 16) (j : S512x1024.Idx) (b : Fin 4) (k : Fin 2048) (h : b.val * 2048 + k.val = t.val * 512 + (j 0).val) :
    k0_pay5 (iblk m c 2 t) (iblk m c 7 t) j = fL (m ((c : Thread nD τ).loc main_arg2)) (m ((c : Thread nD τ).loc main_arg7)) (ix3 b k (j 1)) := by
  pointwise [k0_pay5, fL]
  refine Finset.sum_congr rfl fun x _ => congrArg₂ (· * ·) ?_ ?_ <;> blk_point [iblk, V, idx_val t]

theorem x1L_tile (c : Dev nD) (t : Fin cfg0.N) (ht : t.val < 16) (j : S512x1024.Idx) (b : Fin 4) (k : Fin 2048) (h : b.val * 2048 + k.val = t.val * 512 + (j 0).val) :
    sumTile m c t j = x1L (m ((c : Thread nD τ).loc main_arg0)) (m ((c : Thread nD τ).loc main_arg2)) (m ((c : Thread nD τ).loc main_arg3)) (m ((c : Thread nD τ).loc main_arg7)) (ix3 b k (j 1)) := by
  have hx : iblk m c 0 t j = (m ((c : Thread nD τ).loc main_arg0)) (ix3 b k (j 1)) := by blk_point [iblk, V, idx_val t]
  have hg : iblk m c 3 t (ix3 0 0 (j 1)) = (m ((c : Thread nD τ).loc main_arg3)) (ix3 ⟨b.val, by omega⟩ 0 (j 1)) := by blk_point [iblk, V, idx_val t]
  have hf := fL_tile m c t ht j b k h
  pointwise [sumTile, k0_pay6, x1L, four, last, latents t ht, hx, hg, hf]

theorem umL_tile (c : Dev nD) (t : Fin cfg0.N) (ht : t.val < 16) (j : S512x1024.Idx) (b : Fin 4) (k : Fin 2048) (h : b.val * 2048 + k.val = t.val * 512 + (j 0).val) :
    modTile m c t j = umL (x1L (m ((c : Thread nD τ).loc main_arg0)) (m ((c : Thread nD τ).loc main_arg2)) (m ((c : Thread nD τ).loc main_arg3)) (m ((c : Thread nD τ).loc main_arg7))) (m ((c : Thread nD τ).loc main_arg4)) (m ((c : Thread nD τ).loc main_arg5)) (m ((c : Thread nD τ).loc main_arg6)) (ix3 b k (j 1)) := by
  have hx : ∀ d : Fin 1024, sumTile m c t (ix2 (j 0) d) = x1L (m ((c : Thread nD τ).loc main_arg0)) (m ((c : Thread nD τ).loc main_arg2)) (m ((c : Thread nD τ).loc main_arg3)) (m ((c : Thread nD τ).loc main_arg7)) (ix3 b k d) := fun d => x1L_tile m c t ht (ix2 (j 0) d) b k h
  have hx' := x1L_tile m c t ht j b k h
  have hs : iblk m c 4 t (ix3 0 0 (j 1)) = (m ((c : Thread nD τ).loc main_arg4)) (ix3 ⟨b.val, by omega⟩ 0 (j 1)) := by blk_point [iblk, V, idx_val t]
  have hc : iblk m c 5 t (ix3 0 0 (j 1)) = (m ((c : Thread nD τ).loc main_arg5)) (ix3 ⟨b.val, by omega⟩ 0 (j 1)) := by blk_point [iblk, V, idx_val t]
  have hm : iblk m c 6 t (ix2 0 (j 1)) = (m ((c : Thread nD τ).loc main_arg6)) (ix2 0 (j 1)) := by blk_point [iblk, V, idx_val t]
  unfold sumTile at hx hx'
  pointwise [modTile, sumTile, k0_pay1, k0_pay3, k0_pay4, k0_pay7, umL, four, last, hx, hx', hs, hc, hm]

theorem fC_tile (c : Dev nD) (t : Fin cfg0.N) (ht : ¬ t.val < 16) (j : S512x1024.Idx) (b : Fin 4) (k : Fin 256) (h : 8192 + b.val * 256 + k.val = t.val * 512 + (j 0).val) :
    k0_pay5 (iblk m c 2 t) (iblk m c 7 t) j = fC (m ((c : Thread nD τ).loc main_arg2)) (m ((c : Thread nD τ).loc main_arg7)) (ix3 b k (j 1)) := by
  pointwise [k0_pay5, fC]
  refine Finset.sum_congr rfl fun x _ => congrArg₂ (· * ·) ?_ ?_ <;> blk_point [iblk, V, idx_val t]

theorem x1C_tile (c : Dev nD) (t : Fin cfg0.N) (ht : ¬ t.val < 16) (j : S512x1024.Idx) (b : Fin 4) (k : Fin 256) (h : 8192 + b.val * 256 + k.val = t.val * 512 + (j 0).val) :
    sumTile m c t j = x1C (m ((c : Thread nD τ).loc main_arg1)) (m ((c : Thread nD τ).loc main_arg2)) (m ((c : Thread nD τ).loc main_arg3)) (m ((c : Thread nD τ).loc main_arg7)) (ix3 b k (j 1)) := by
  have hx : iblk m c 1 t j = (m ((c : Thread nD τ).loc main_arg1)) (ix3 b k (j 1)) := by blk_point [iblk, V, idx_val t]
  have hg : iblk m c 3 t (ix3 0 0 (j 1)) = (m ((c : Thread nD τ).loc main_arg3)) (ix3 4 0 (j 1)) := by blk_point [iblk, V, idx_val t]
  have hf := fC_tile m c t ht j b k h
  pointwise [sumTile, k0_pay6, x1C, four, last, context t ht, hx, hg, hf]

theorem umC_tile (c : Dev nD) (t : Fin cfg0.N) (ht : ¬ t.val < 16) (j : S512x1024.Idx) (b : Fin 4) (k : Fin 256) (h : 8192 + b.val * 256 + k.val = t.val * 512 + (j 0).val) :
    modTile m c t j = umC (x1C (m ((c : Thread nD τ).loc main_arg1)) (m ((c : Thread nD τ).loc main_arg2)) (m ((c : Thread nD τ).loc main_arg3)) (m ((c : Thread nD τ).loc main_arg7))) (m ((c : Thread nD τ).loc main_arg4)) (m ((c : Thread nD τ).loc main_arg5)) (m ((c : Thread nD τ).loc main_arg6)) (ix3 b k (j 1)) := by
  have hx : ∀ d : Fin 1024, sumTile m c t (ix2 (j 0) d) = x1C (m ((c : Thread nD τ).loc main_arg1)) (m ((c : Thread nD τ).loc main_arg2)) (m ((c : Thread nD τ).loc main_arg3)) (m ((c : Thread nD τ).loc main_arg7)) (ix3 b k d) := fun d => x1C_tile m c t ht (ix2 (j 0) d) b k h
  have hx' := x1C_tile m c t ht j b k h
  have hs : iblk m c 4 t (ix3 0 0 (j 1)) = (m ((c : Thread nD τ).loc main_arg4)) (ix3 4 0 (j 1)) := by blk_point [iblk, V, idx_val t]
  have hc : iblk m c 5 t (ix3 0 0 (j 1)) = (m ((c : Thread nD τ).loc main_arg5)) (ix3 4 0 (j 1)) := by blk_point [iblk, V, idx_val t]
  have hm : iblk m c 6 t (ix2 0 (j 1)) = (m ((c : Thread nD τ).loc main_arg6)) (ix2 0 (j 1)) := by blk_point [iblk, V, idx_val t]
  unfold sumTile at hx hx'
  pointwise [modTile, sumTile, k0_pay1, k0_pay3, k0_pay4, k0_pay7, umC, four, last, hx, hx', hs, hc, hm]

theorem point8 (c : Dev nD) (t : Fin cfg0.N) (y : S512x1024.Idx) :
    out0_8 (grid0.coords t) (iblk m c 0 t) (iblk m c 1 t) (iblk m c 2 t) (iblk m c 3 t) (iblk m c 4 t) (iblk m c 5 t) (iblk m c 6 t) (iblk m c 7 t) y
      = stacked (x1L (m ((c : Thread nD τ).loc main_arg0)) (m ((c : Thread nD τ).loc main_arg2)) (m ((c : Thread nD τ).loc main_arg3)) (m ((c : Thread nD τ).loc main_arg7))) (x1C (m ((c : Thread nD τ).loc main_arg1)) (m ((c : Thread nD τ).loc main_arg2)) (m ((c : Thread nD τ).loc main_arg3)) (m ((c : Thread nD τ).loc main_arg7))) (((cfg0.win 8).blk t).view.emb y) := by
  frame_out
  unfold k0_pay8
  simp (disch := decide) only [View.ld_unit_lit']
  have h0 : ((((cfg0.win 8).blk t).view.emb y) 0).val = t.val * 512 + (y 0).val := by blk_point [idx_val t]
  have h1 : ((((cfg0.win 8).blk t).view.emb y) 1).val = (y 1).val := by blk_point [idx_val t]
  revert h0 h1
  generalize ((cfg0.win 8).blk t).view.emb y = i
  intro h0 h1
  have hy : (y 0).val < 512 := (y 0).isLt
  have e1 : i 1 = y 1 := Fin.ext h1
  by_cases ht : t.val < 16
  · rw [stacked_latents _ _ i (by omega), e1]
    exact x1L_tile m c t ht y _ _ (by simp only; omega)
  · rw [stacked_context _ _ i (by omega), e1]
    exact x1C_tile m c t ht y _ _ (by simp only; omega)

theorem final8 (c : Dev nD) : (dats m 0 c).arrAt 8 (cfgs 0).N = stacked (x1L (m ((c : Thread nD τ).loc main_arg0)) (m ((c : Thread nD τ).loc main_arg2)) (m ((c : Thread nD τ).loc main_arg3)) (m ((c : Thread nD τ).loc main_arg7))) (x1C (m ((c : Thread nD τ).loc main_arg1)) (m ((c : Thread nD τ).loc main_arg2)) (m ((c : Thread nD τ).loc main_arg3)) (m ((c : Thread nD τ).loc main_arg7))) := by
  refine (dats m 0 c).arrAt_eq_of_covers 8 _ (by decide +kernel) fun t hf y => ?_
  blk_simp; rw [after0_8]
  exact point8 m c t y

theorem point9 (c : Dev nD) (t : Fin cfg0.N) (y : S512x1024.Idx) :
    out0_9 (grid0.coords t) (iblk m c 0 t) (iblk m c 1 t) (iblk m c 2 t) (iblk m c 3 t) (iblk m c 4 t) (iblk m c 5 t) (iblk m c 6 t) (iblk m c 7 t) y
      = stacked (umL (x1L (m ((c : Thread nD τ).loc main_arg0)) (m ((c : Thread nD τ).loc main_arg2)) (m ((c : Thread nD τ).loc main_arg3)) (m ((c : Thread nD τ).loc main_arg7))) (m ((c : Thread nD τ).loc main_arg4)) (m ((c : Thread nD τ).loc main_arg5)) (m ((c : Thread nD τ).loc main_arg6))) (umC (x1C (m ((c : Thread nD τ).loc main_arg1)) (m ((c : Thread nD τ).loc main_arg2)) (m ((c : Thread nD τ).loc main_arg3)) (m ((c : Thread nD τ).loc main_arg7))) (m ((c : Thread nD τ).loc main_arg4)) (m ((c : Thread nD τ).loc main_arg5)) (m ((c : Thread nD τ).loc main_arg6))) (((cfg0.win 9).blk t).view.emb y) := by
  frame_out
  unfold k0_pay8
  simp (disch := decide) only [View.ld_unit_lit']
  have h0 : ((((cfg0.win 9).blk t).view.emb y) 0).val = t.val * 512 + (y 0).val := by blk_point [idx_val t]
  have h1 : ((((cfg0.win 9).blk t).view.emb y) 1).val = (y 1).val := by blk_point [idx_val t]
  revert h0 h1
  generalize ((cfg0.win 9).blk t).view.emb y = i
  intro h0 h1
  have hy : (y 0).val < 512 := (y 0).isLt
  have e1 : i 1 = y 1 := Fin.ext h1
  by_cases ht : t.val < 16
  · rw [stacked_latents _ _ i (by omega), e1]
    exact umL_tile m c t ht y _ _ (by simp only; omega)
  · rw [stacked_context _ _ i (by omega), e1]
    exact umC_tile m c t ht y _ _ (by simp only; omega)

theorem final9 (c : Dev nD) : (dats m 0 c).arrAt 9 (cfgs 0).N = stacked (umL (x1L (m ((c : Thread nD τ).loc main_arg0)) (m ((c : Thread nD τ).loc main_arg2)) (m ((c : Thread nD τ).loc main_arg3)) (m ((c : Thread nD τ).loc main_arg7))) (m ((c : Thread nD τ).loc main_arg4)) (m ((c : Thread nD τ).loc main_arg5)) (m ((c : Thread nD τ).loc main_arg6))) (umC (x1C (m ((c : Thread nD τ).loc main_arg1)) (m ((c : Thread nD τ).loc main_arg2)) (m ((c : Thread nD τ).loc main_arg3)) (m ((c : Thread nD τ).loc main_arg7))) (m ((c : Thread nD τ).loc main_arg4)) (m ((c : Thread nD τ).loc main_arg5)) (m ((c : Thread nD τ).loc main_arg6))) := by
  refine (dats m 0 c).arrAt_eq_of_covers 9 _ (by decide +kernel) fun t hf y => ?_
  blk_simp; rw [after0_9]
  exact point9 m c t y

theorem point10 (c : Dev nD) (t : Fin cfg0.N) (y : S512x1024.Idx) :
    out0_10 (grid0.coords t) (iblk m c 0 t) (iblk m c 1 t) (iblk m c 2 t) (iblk m c 3 t) (iblk m c 4 t) (iblk m c 5 t) (iblk m c 6 t) (iblk m c 7 t) y
      = stacked (fL (m ((c : Thread nD τ).loc main_arg2)) (m ((c : Thread nD τ).loc main_arg7))) (fC (m ((c : Thread nD τ).loc main_arg2)) (m ((c : Thread nD τ).loc main_arg7))) (((cfg0.win 10).blk t).view.emb y) := by
  frame_out
  have h0 : ((((cfg0.win 10).blk t).view.emb y) 0).val = t.val * 512 + (y 0).val := by blk_point [idx_val t]
  have h1 : ((((cfg0.win 10).blk t).view.emb y) 1).val = (y 1).val := by blk_point [idx_val t]
  revert h0 h1
  generalize ((cfg0.win 10).blk t).view.emb y = i
  intro h0 h1
  have hy : (y 0).val < 512 := (y 0).isLt
  have e1 : i 1 = y 1 := Fin.ext h1
  by_cases ht : t.val < 16
  · rw [stacked_latents _ _ i (by omega), e1]
    exact fL_tile m c t ht y _ _ (by simp only; omega)
  · rw [stacked_context _ _ i (by omega), e1]
    exact fC_tile m c t ht y _ _ (by simp only; omega)

theorem final10 (c : Dev nD) : (dats m 0 c).arrAt 10 (cfgs 0).N = stacked (fL (m ((c : Thread nD τ).loc main_arg2)) (m ((c : Thread nD τ).loc main_arg7))) (fC (m ((c : Thread nD τ).loc main_arg2)) (m ((c : Thread nD τ).loc main_arg7))) := by
  refine (dats m 0 c).arrAt_eq_of_covers 10 _ (by decide +kernel) fun t hf y => ?_
  blk_simp; rw [after0_10]
  exact point10 m c t y

end Kernel

section Claims

theorem reference_quiescent : quiescent_Reference14Ideal := fun m g _ =>
  (θ_run Cert.Reference14Ideal.defs _ _).mono (fun r h => ⟨fun c => (h c).2.2.2, sem_eq_zero_of_no_sems (by decide) r.2⟩) (Cert.Reference14Ideal.Value.run m g)

set_option maxHeartbeats 4000000 in
theorem agrees : algebraic_Kernel14Ideal_Reference14Ideal := by
  pair_intro
  · run_from Cert.Kernel14Ideal.Gen.run_main _ _
  · run_from Cert.Reference14Ideal.Value.run _ _
    · obtain ⟨h0, h1, h2, h3, h4, h5, h6, h7⟩ := hagree c
      refine Eq.trans (b := stacked (x1L (m ((c : Thread Cert.Kernel14Ideal.nD Cert.Kernel14Ideal.τ).loc Cert.Kernel14Ideal.main_arg0)) (m ((c : Thread Cert.Kernel14Ideal.nD Cert.Kernel14Ideal.τ).loc Cert.Kernel14Ideal.main_arg2)) (m ((c : Thread Cert.Kernel14Ideal.nD Cert.Kernel14Ideal.τ).loc Cert.Kernel14Ideal.main_arg3)) (m ((c : Thread Cert.Kernel14Ideal.nD Cert.Kernel14Ideal.τ).loc Cert.Kernel14Ideal.main_arg7))) (x1C (m ((c : Thread Cert.Kernel14Ideal.nD Cert.Kernel14Ideal.τ).loc Cert.Kernel14Ideal.main_arg1)) (m ((c : Thread Cert.Kernel14Ideal.nD Cert.Kernel14Ideal.τ).loc Cert.Kernel14Ideal.main_arg2)) (m ((c : Thread Cert.Kernel14Ideal.nD Cert.Kernel14Ideal.τ).loc Cert.Kernel14Ideal.main_arg3)) (m ((c : Thread Cert.Kernel14Ideal.nD Cert.Kernel14Ideal.τ).loc Cert.Kernel14Ideal.main_arg7)))) ?_ (final8 m c).symm
      rw [h7]
      rfl
    · obtain ⟨h0, h1, h2, h3, h4, h5, h6, h7⟩ := hagree c
      refine Eq.trans (b := stacked (umL (x1L (m ((c : Thread Cert.Kernel14Ideal.nD Cert.Kernel14Ideal.τ).loc Cert.Kernel14Ideal.main_arg0)) (m ((c : Thread Cert.Kernel14Ideal.nD Cert.Kernel14Ideal.τ).loc Cert.Kernel14Ideal.main_arg2)) (m ((c : Thread Cert.Kernel14Ideal.nD Cert.Kernel14Ideal.τ).loc Cert.Kernel14Ideal.main_arg3)) (m ((c : Thread Cert.Kernel14Ideal.nD Cert.Kernel14Ideal.τ).loc Cert.Kernel14Ideal.main_arg7))) (m ((c : Thread Cert.Kernel14Ideal.nD Cert.Kernel14Ideal.τ).loc Cert.Kernel14Ideal.main_arg4)) (m ((c : Thread Cert.Kernel14Ideal.nD Cert.Kernel14Ideal.τ).loc Cert.Kernel14Ideal.main_arg5)) (m ((c : Thread Cert.Kernel14Ideal.nD Cert.Kernel14Ideal.τ).loc Cert.Kernel14Ideal.main_arg6))) (umC (x1C (m ((c : Thread Cert.Kernel14Ideal.nD Cert.Kernel14Ideal.τ).loc Cert.Kernel14Ideal.main_arg1)) (m ((c : Thread Cert.Kernel14Ideal.nD Cert.Kernel14Ideal.τ).loc Cert.Kernel14Ideal.main_arg2)) (m ((c : Thread Cert.Kernel14Ideal.nD Cert.Kernel14Ideal.τ).loc Cert.Kernel14Ideal.main_arg3)) (m ((c : Thread Cert.Kernel14Ideal.nD Cert.Kernel14Ideal.τ).loc Cert.Kernel14Ideal.main_arg7))) (m ((c : Thread Cert.Kernel14Ideal.nD Cert.Kernel14Ideal.τ).loc Cert.Kernel14Ideal.main_arg4)) (m ((c : Thread Cert.Kernel14Ideal.nD Cert.Kernel14Ideal.τ).loc Cert.Kernel14Ideal.main_arg5)) (m ((c : Thread Cert.Kernel14Ideal.nD Cert.Kernel14Ideal.τ).loc Cert.Kernel14Ideal.main_arg6)))) ?_ (final9 m c).symm
      simp only [← h0, ← h1, ← h2, ← h3, ← h4, ← h5, ← h6, ← h7]
      rfl
    · obtain ⟨h0, h1, h2, h3, h4, h5, h6, h7⟩ := hagree c
      refine Eq.trans (b := stacked (fL (m ((c : Thread Cert.Kernel14Ideal.nD Cert.Kernel14Ideal.τ).loc Cert.Kernel14Ideal.main_arg2)) (m ((c : Thread Cert.Kernel14Ideal.nD Cert.Kernel14Ideal.τ).loc Cert.Kernel14Ideal.main_arg7))) (fC (m ((c : Thread Cert.Kernel14Ideal.nD Cert.Kernel14Ideal.τ).loc Cert.Kernel14Ideal.main_arg2)) (m ((c : Thread Cert.Kernel14Ideal.nD Cert.Kernel14Ideal.τ).loc Cert.Kernel14Ideal.main_arg7)))) ?_ (final10 m c).symm
      simp only [← h0, ← h1, ← h2, ← h3, ← h4, ← h5, ← h6, ← h7]
      rfl

end Claims

end Cert.Proof.MixIn

end
-- ==== Proof.Adam.lean ====
/- The optimiser's formulas as whole-array operations, at any shape. -/
module

public import Idealize.ShloMosaic.Lib.Pointwise

@[expose] public section

noncomputable section

open Idealize.ShloMosaic

namespace Cert.Proof.Adam

variable {S : Shape} (h : (⟨0, ![]⟩ : Shape).BroadcastsInDim S (![] : Fin 0 → Fin S.rank))

/-- An array holding one constant. -/
abbrev fill (x : BitVec 32) : FVec Ideal S .f32 := broadcastInDim S ![] h (constant ⟨0, ![]⟩ .f32 x)

/-- The running mean of the gradient, one step on. -/
abbrev mean (m g : FVec Ideal S .f32) : FVec Ideal S .f32 := addf (mulf (fill h 0x3F666666#32) m) (mulf (fill h 0x3DCCCCCD#32) g)

/-- The running mean of its square, one step on. -/
abbrev square (v g : FVec Ideal S .f32) : FVec Ideal S .f32 := addf (mulf (fill h 0x3F7FBE77#32) v) (mulf (fill h 0x3A83126F#32) (mulf g g))

/-- The weight's change. -/
abbrev change (w g m v : FVec Ideal S .f32) : FVec Ideal S .f32 :=
  mulf (fill h 0xBA83126F#32)
    (addf (Host.divf (Host.divf (mean h m g) (fill h 0x3F26BD02#32)) (addf (Host.sqrt (Host.divf (square h v g) (fill h 0x3C231ACC#32))) (fill h 0x322BCC77#32)))
      (mulf (fill h 0x3C23D70A#32) w))

end Cert.Proof.Adam

end
-- ==== Proof.AdamW1Down.lean ====
/- The optimiser's step over tiles of rows, the gradient summed over its eight parts: one down projection. -/
module

public import proofs.«01_k».proof.Proof.Gen.Kernel15Ideal.Value
public import proofs.«01_k».proof.Proof.Gen.Reference15Ideal.Run
public import proofs.«01_k».proof.Proof.Adam
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.AdamW1Down

section Kernel
open Cert.Kernel15Ideal Cert.Kernel15Ideal.Gen

variable (m : (ℓ : Loc nD τ sig) → Buf (Elt Ideal) ℓ)

/-- The eight partial gradients, summed. -/
abbrev total (g : FVec Ideal Cert.Reference15Ideal.S8x352x1024 .bf16) : FVec Ideal Cert.Reference15Ideal.S352x1024 .f32 :=
  Host.reduceAdd (extf .f32 g Cert.Reference15Ideal.Gen.bitsLt_bf16_f32) (constant Cert.Reference15Ideal.S_ .f32 0x00000000#32) Cert.Reference15Ideal.Gen.reducesTo_S8x352x1024_S352x1024_d0 Cert.Reference15Ideal.Gen.h_S_

theorem idx_val : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The argument arrays: weight, the two running means, gradient. -/
abbrev w (c : Dev nD) : FVec Ideal Cert.Reference15Ideal.S352x1024 .f32 := m ((c : Thread nD τ).loc main_arg0)
abbrev mean (c : Dev nD) : FVec Ideal Cert.Reference15Ideal.S352x1024 .f32 := m ((c : Thread nD τ).loc main_arg1)
abbrev square (c : Dev nD) : FVec Ideal Cert.Reference15Ideal.S352x1024 .f32 := m ((c : Thread nD τ).loc main_arg2)
abbrev grad (c : Dev nD) : FVec Ideal Cert.Reference15Ideal.S352x1024 .f32 := total (m ((c : Thread nD τ).loc main_arg3))

set_option maxHeartbeats 3200000 in
/-- What one grid point stores is each formula's block. -/
theorem points (c : Dev nD) (t : Fin cfg0.N) :
    (∀ y, out0_4 (iblk m c 0 t) (iblk m c 1 t) (iblk m c 2 t) (iblk m c 3 t) y = grad m c (((cfg0.win 4).blk t).view.emb y))
    ∧ (∀ y, out0_5 (iblk m c 0 t) (iblk m c 1 t) (iblk m c 2 t) (iblk m c 3 t) y
      = Adam.change Cert.Reference15Ideal.Gen.bcast_S_S352x1024 (w m c) (grad m c) (mean m c) (square m c) (((cfg0.win 5).blk t).view.emb y))
    ∧ (∀ y, out0_6 (iblk m c 0 t) (iblk m c 1 t) (iblk m c 2 t) (iblk m c 3 t) y
      = Adam.mean Cert.Reference15Ideal.Gen.bcast_S_S352x1024 (mean m c) (grad m c) (((cfg0.win 6).blk t).view.emb y))
    ∧ (∀ y, out0_7 (iblk m c 0 t) (iblk m c 1 t) (iblk m c 2 t) (iblk m c 3 t) y
      = Adam.square Cert.Reference15Ideal.Gen.bcast_S_S352x1024 (square m c) (grad m c) (((cfg0.win 7).blk t).view.emb y)) := by
  refine ⟨fun y => ?_, fun y => ?_, fun y => ?_, fun y => ?_⟩
  all_goals
    canon_tiles x h
    all_goals
      open_payloads
      pointwise [Adam.change, Adam.mean, Adam.square, w, mean, square, grad, total]
      simp only [Fin.sum_univ_eight]
      blk_point [iblk, V, idx_val t]

/-- The four arrays after the run. -/
theorem final (c : Dev nD) :
    (dats m 0 c).arrAt 4 (cfgs 0).N = grad m c
    ∧ (dats m 0 c).arrAt 5 (cfgs 0).N = Adam.change Cert.Reference15Ideal.Gen.bcast_S_S352x1024 (w m c) (grad m c) (mean m c) (square m c)
    ∧ (dats m 0 c).arrAt 6 (cfgs 0).N = Adam.mean Cert.Reference15Ideal.Gen.bcast_S_S352x1024 (mean m c) (grad m c)
    ∧ (dats m 0 c).arrAt 7 (cfgs 0).N = Adam.square Cert.Reference15Ideal.Gen.bcast_S_S352x1024 (square m c) (grad m c) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  · blk_simp; rw [after0_4]; exact (points m c t).1 y
  · blk_simp; rw [after0_5]; exact (points m c t).2.1 y
  · blk_simp; rw [after0_6]; exact (points m c t).2.2.1 y
  · blk_simp; rw [after0_7]; exact (points m c t).2.2.2 y

end Kernel

section Claims

theorem reference_quiescent : quiescent_Reference15Ideal := fun m g _ =>
  (θ_run Cert.Reference15Ideal.defs _ _).mono (fun r h => ⟨fun c => (h c).2.2.2.2, sem_eq_zero_of_no_sems (by decide) r.2⟩) (Cert.Reference15Ideal.Value.run m g)

set_option maxHeartbeats 4000000 in
theorem agrees : algebraic_Kernel15Ideal_Reference15Ideal := by
  pair_intro
  · run_from Cert.Kernel15Ideal.Gen.run_main _ _
  · run_from Cert.Reference15Ideal.Value.run _ _
    · exact (final m c).1.symm
    · exact (final m c).2.1.symm
    · exact (final m c).2.2.1.symm
    · exact (final m c).2.2.2.symm

end Claims

end Cert.Proof.AdamW1Down

end
-- ==== Proof.AdamConvOut.lean ====
/- The optimiser's step over tiles of rows, the gradient summed over its eight parts: one square projection. -/
module

public import proofs.«01_k».proof.Proof.Gen.Kernel16Ideal.Value
public import proofs.«01_k».proof.Proof.Gen.Reference16Ideal.Run
public import proofs.«01_k».proof.Proof.Adam
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.AdamConvOut

section Kernel
open Cert.Kernel16Ideal Cert.Kernel16Ideal.Gen

variable (m : (ℓ : Loc nD τ sig) → Buf (Elt Ideal) ℓ)

/-- The eight partial gradients, summed. -/
abbrev total (g : FVec Ideal Cert.Reference16Ideal.S8x128x1024 .bf16) : FVec Ideal Cert.Reference16Ideal.S128x1024 .f32 :=
  Host.reduceAdd (extf .f32 g Cert.Reference16Ideal.Gen.bitsLt_bf16_f32) (constant Cert.Reference16Ideal.S_ .f32 0x00000000#32) Cert.Reference16Ideal.Gen.reducesTo_S8x128x1024_S128x1024_d0 Cert.Reference16Ideal.Gen.h_S_

theorem idx_val : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The argument arrays: weight, the two running means, gradient. -/
abbrev w (c : Dev nD) : FVec Ideal Cert.Reference16Ideal.S128x1024 .f32 := m ((c : Thread nD τ).loc main_arg0)
abbrev mean (c : Dev nD) : FVec Ideal Cert.Reference16Ideal.S128x1024 .f32 := m ((c : Thread nD τ).loc main_arg1)
abbrev square (c : Dev nD) : FVec Ideal Cert.Reference16Ideal.S128x1024 .f32 := m ((c : Thread nD τ).loc main_arg2)
abbrev grad (c : Dev nD) : FVec Ideal Cert.Reference16Ideal.S128x1024 .f32 := total (m ((c : Thread nD τ).loc main_arg3))

set_option maxHeartbeats 3200000 in
/-- What one grid point stores is each formula's block. -/
theorem points (c : Dev nD) (t : Fin cfg0.N) :
    (∀ y, out0_4 (iblk m c 0 t) (iblk m c 1 t) (iblk m c 2 t) (iblk m c 3 t) y = grad m c (((cfg0.win 4).blk t).view.emb y))
    ∧ (∀ y, out0_5 (iblk m c 0 t) (iblk m c 1 t) (iblk m c 2 t) (iblk m c 3 t) y
      = Adam.change Cert.Reference16Ideal.Gen.bcast_S_S128x1024 (w m c) (grad m c) (mean m c) (square m c) (((cfg0.win 5).blk t).view.emb y))
    ∧ (∀ y, out0_6 (iblk m c 0 t) (iblk m c 1 t) (iblk m c 2 t) (iblk m c 3 t) y
      = Adam.mean Cert.Reference16Ideal.Gen.bcast_S_S128x1024 (mean m c) (grad m c) (((cfg0.win 6).blk t).view.emb y))
    ∧ (∀ y, out0_7 (iblk m c 0 t) (iblk m c 1 t) (iblk m c 2 t) (iblk m c 3 t) y
      = Adam.square Cert.Reference16Ideal.Gen.bcast_S_S128x1024 (square m c) (grad m c) (((cfg0.win 7).blk t).view.emb y)) := by
  refine ⟨fun y => ?_, fun y => ?_, fun y => ?_, fun y => ?_⟩
  all_goals
    canon_tiles x h
    all_goals
      open_payloads
      pointwise [Adam.change, Adam.mean, Adam.square, w, mean, square, grad, total]
      simp only [Fin.sum_univ_eight]
      blk_point [iblk, V, idx_val t]

/-- The four arrays after the run. -/
theorem final (c : Dev nD) :
    (dats m 0 c).arrAt 4 (cfgs 0).N = grad m c
    ∧ (dats m 0 c).arrAt 5 (cfgs 0).N = Adam.change Cert.Reference16Ideal.Gen.bcast_S_S128x1024 (w m c) (grad m c) (mean m c) (square m c)
    ∧ (dats m 0 c).arrAt 6 (cfgs 0).N = Adam.mean Cert.Reference16Ideal.Gen.bcast_S_S128x1024 (mean m c) (grad m c)
    ∧ (dats m 0 c).arrAt 7 (cfgs 0).N = Adam.square Cert.Reference16Ideal.Gen.bcast_S_S128x1024 (square m c) (grad m c) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  · blk_simp; rw [after0_4]; exact (points m c t).1 y
  · blk_simp; rw [after0_5]; exact (points m c t).2.1 y
  · blk_simp; rw [after0_6]; exact (points m c t).2.2.1 y
  · blk_simp; rw [after0_7]; exact (points m c t).2.2.2 y

end Kernel

section Claims

theorem reference_quiescent : quiescent_Reference16Ideal := fun m g _ =>
  (θ_run Cert.Reference16Ideal.defs _ _).mono (fun r h => ⟨fun c => (h c).2.2.2.2, sem_eq_zero_of_no_sems (by decide) r.2⟩) (Cert.Reference16Ideal.Value.run m g)

set_option maxHeartbeats 4000000 in
theorem agrees : algebraic_Kernel16Ideal_Reference16Ideal := by
  pair_intro
  · run_from Cert.Kernel16Ideal.Gen.run_main _ _
  · run_from Cert.Reference16Ideal.Value.run _ _
    · exact (final m c).1.symm
    · exact (final m c).2.1.symm
    · exact (final m c).2.2.1.symm
    · exact (final m c).2.2.2.symm

end Claims

end Cert.Proof.AdamConvOut

end
-- ==== Proof.AdamW2Gu.lean ====
/- The optimiser's step over tiles of rows, the gradient summed over its eight parts: one up projection. -/
module

public import proofs.«01_k».proof.Proof.Gen.Kernel17Ideal.Value
public import proofs.«01_k».proof.Proof.Gen.Reference17Ideal.Run
public import proofs.«01_k».proof.Proof.Adam
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.AdamW2Gu

section Kernel
open Cert.Kernel17Ideal Cert.Kernel17Ideal.Gen

variable (m : (ℓ : Loc nD τ sig) → Buf (Elt Ideal) ℓ)

/-- The eight partial gradients, summed. -/
abbrev total (g : FVec Ideal Cert.Reference17Ideal.S8x1024x704 .bf16) : FVec Ideal Cert.Reference17Ideal.S1024x704 .f32 :=
  Host.reduceAdd (extf .f32 g Cert.Reference17Ideal.Gen.bitsLt_bf16_f32) (constant Cert.Reference17Ideal.S_ .f32 0x00000000#32) Cert.Reference17Ideal.Gen.reducesTo_S8x1024x704_S1024x704_d0 Cert.Reference17Ideal.Gen.h_S_

theorem idx_val : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The argument arrays: weight, the two running means, gradient. -/
abbrev w (c : Dev nD) : FVec Ideal Cert.Reference17Ideal.S1024x704 .f32 := m ((c : Thread nD τ).loc main_arg0)
abbrev mean (c : Dev nD) : FVec Ideal Cert.Reference17Ideal.S1024x704 .f32 := m ((c : Thread nD τ).loc main_arg1)
abbrev square (c : Dev nD) : FVec Ideal Cert.Reference17Ideal.S1024x704 .f32 := m ((c : Thread nD τ).loc main_arg2)
abbrev grad (c : Dev nD) : FVec Ideal Cert.Reference17Ideal.S1024x704 .f32 := total (m ((c : Thread nD τ).loc main_arg3))

set_option maxHeartbeats 3200000 in
/-- What one grid point stores is each formula's block. -/
theorem points (c : Dev nD) (t : Fin cfg0.N) :
    (∀ y, out0_4 (iblk m c 0 t) (iblk m c 1 t) (iblk m c 2 t) (iblk m c 3 t) y = grad m c (((cfg0.win 4).blk t).view.emb y))
    ∧ (∀ y, out0_5 (iblk m c 0 t) (iblk m c 1 t) (iblk m c 2 t) (iblk m c 3 t) y
      = Adam.change Cert.Reference17Ideal.Gen.bcast_S_S1024x704 (w m c) (grad m c) (mean m c) (square m c) (((cfg0.win 5).blk t).view.emb y))
    ∧ (∀ y, out0_6 (iblk m c 0 t) (iblk m c 1 t) (iblk m c 2 t) (iblk m c 3 t) y
      = Adam.mean Cert.Reference17Ideal.Gen.bcast_S_S1024x704 (mean m c) (grad m c) (((cfg0.win 6).blk t).view.emb y))
    ∧ (∀ y, out0_7 (iblk m c 0 t) (iblk m c 1 t) (iblk m c 2 t) (iblk m c 3 t) y
      = Adam.square Cert.Reference17Ideal.Gen.bcast_S_S1024x704 (square m c) (grad m c) (((cfg0.win 7).blk t).view.emb y)) := by
  refine ⟨fun y => ?_, fun y => ?_, fun y => ?_, fun y => ?_⟩
  all_goals
    canon_tiles x h
    all_goals
      open_payloads
      pointwise [Adam.change, Adam.mean, Adam.square, w, mean, square, grad, total]
      simp only [Fin.sum_univ_eight]
      blk_point [iblk, V, idx_val t]

/-- The four arrays after the run. -/
theorem final (c : Dev nD) :
    (dats m 0 c).arrAt 4 (cfgs 0).N = grad m c
    ∧ (dats m 0 c).arrAt 5 (cfgs 0).N = Adam.change Cert.Reference17Ideal.Gen.bcast_S_S1024x704 (w m c) (grad m c) (mean m c) (square m c)
    ∧ (dats m 0 c).arrAt 6 (cfgs 0).N = Adam.mean Cert.Reference17Ideal.Gen.bcast_S_S1024x704 (mean m c) (grad m c)
    ∧ (dats m 0 c).arrAt 7 (cfgs 0).N = Adam.square Cert.Reference17Ideal.Gen.bcast_S_S1024x704 (square m c) (grad m c) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  · blk_simp; rw [after0_4]; exact (points m c t).1 y
  · blk_simp; rw [after0_5]; exact (points m c t).2.1 y
  · blk_simp; rw [after0_6]; exact (points m c t).2.2.1 y
  · blk_simp; rw [after0_7]; exact (points m c t).2.2.2 y

end Kernel

section Claims

theorem reference_quiescent : quiescent_Reference17Ideal := fun m g _ =>
  (θ_run Cert.Reference17Ideal.defs _ _).mono (fun r h => ⟨fun c => (h c).2.2.2.2, sem_eq_zero_of_no_sems (by decide) r.2⟩) (Cert.Reference17Ideal.Value.run m g)

set_option maxHeartbeats 4000000 in
theorem agrees : algebraic_Kernel17Ideal_Reference17Ideal := by
  pair_intro
  · run_from Cert.Kernel17Ideal.Gen.run_main _ _
  · run_from Cert.Reference17Ideal.Value.run _ _
    · exact (final m c).1.symm
    · exact (final m c).2.1.symm
    · exact (final m c).2.2.1.symm
    · exact (final m c).2.2.2.symm

end Claims

end Cert.Proof.AdamW2Gu

end
-- ==== Proof.AdamWMod.lean ====
/- The optimiser's step over tiles of rows, the gradient given whole: the modulation weight. -/
module

public import proofs.«01_k».proof.Proof.Gen.Kernel18Ideal.Value
public import proofs.«01_k».proof.Proof.Gen.Reference18Ideal.Run
public import proofs.«01_k».proof.Proof.Adam
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.AdamWMod

section Kernel
open Cert.Kernel18Ideal Cert.Kernel18Ideal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The argument arrays: weight, the two running means, gradient. -/
abbrev w (c : Dev nD) : FVec Ideal Cert.Reference18Ideal.S1024x1152 .f32 := m ((c : Thread nD τ).loc main_arg0)
abbrev mean (c : Dev nD) : FVec Ideal Cert.Reference18Ideal.S1024x1152 .f32 := m ((c : Thread nD τ).loc main_arg1)
abbrev square (c : Dev nD) : FVec Ideal Cert.Reference18Ideal.S1024x1152 .f32 := m ((c : Thread nD τ).loc main_arg2)
abbrev grad (c : Dev nD) : FVec Ideal Cert.Reference18Ideal.S1024x1152 .f32 :=  (m ((c : Thread nD τ).loc main_arg3))

set_option maxHeartbeats 3200000 in
/-- What one grid point stores is each formula's block. -/
theorem points (c : Dev nD) (t : Fin cfg0.N) :
    (∀ y, out0_4 (iblk m c 0 t) (iblk m c 1 t) (iblk m c 2 t) (iblk m c 3 t) y = grad m c (((cfg0.win 4).blk t).view.emb y))
    ∧ (∀ y, out0_5 (iblk m c 0 t) (iblk m c 1 t) (iblk m c 2 t) (iblk m c 3 t) y
      = Adam.change Cert.Reference18Ideal.Gen.bcast_S_S1024x1152 (w m c) (grad m c) (mean m c) (square m c) (((cfg0.win 5).blk t).view.emb y))
    ∧ (∀ y, out0_6 (iblk m c 0 t) (iblk m c 1 t) (iblk m c 2 t) (iblk m c 3 t) y
      = Adam.mean Cert.Reference18Ideal.Gen.bcast_S_S1024x1152 (mean m c) (grad m c) (((cfg0.win 6).blk t).view.emb y))
    ∧ (∀ y, out0_7 (iblk m c 0 t) (iblk m c 1 t) (iblk m c 2 t) (iblk m c 3 t) y
      = Adam.square Cert.Reference18Ideal.Gen.bcast_S_S1024x1152 (square m c) (grad m c) (((cfg0.win 7).blk t).view.emb y)) := by
  refine ⟨fun y => ?_, fun y => ?_, fun y => ?_, fun y => ?_⟩
  all_goals
    canon_tiles x h
    all_goals
      open_payloads
      pointwise [Adam.change, Adam.mean, Adam.square, w, mean, square, grad]
      blk_point [iblk, V, idx_val t]

/-- The four arrays after the run. -/
theorem final (c : Dev nD) :
    (dats m 0 c).arrAt 4 (cfgs 0).N = grad m c
    ∧ (dats m 0 c).arrAt 5 (cfgs 0).N = Adam.change Cert.Reference18Ideal.Gen.bcast_S_S1024x1152 (w m c) (grad m c) (mean m c) (square m c)
    ∧ (dats m 0 c).arrAt 6 (cfgs 0).N = Adam.mean Cert.Reference18Ideal.Gen.bcast_S_S1024x1152 (mean m c) (grad m c)
    ∧ (dats m 0 c).arrAt 7 (cfgs 0).N = Adam.square Cert.Reference18Ideal.Gen.bcast_S_S1024x1152 (square m c) (grad m c) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  · blk_simp; rw [after0_4]; exact (points m c t).1 y
  · blk_simp; rw [after0_5]; exact (points m c t).2.1 y
  · blk_simp; rw [after0_6]; exact (points m c t).2.2.1 y
  · blk_simp; rw [after0_7]; exact (points m c t).2.2.2 y

end Kernel

section Claims

theorem reference_quiescent : quiescent_Reference18Ideal := fun m g _ =>
  (θ_run Cert.Reference18Ideal.defs _ _).mono (fun r h => ⟨fun c => (h c).2.2.2.2, sem_eq_zero_of_no_sems (by decide) r.2⟩) (Cert.Reference18Ideal.Value.run m g)

set_option maxHeartbeats 4000000 in
theorem agrees : algebraic_Kernel18Ideal_Reference18Ideal := by
  pair_intro
  · run_from Cert.Kernel18Ideal.Gen.run_main _ _
  · run_from Cert.Reference18Ideal.Value.run _ _
    · exact (final m c).1.symm
    · exact (final m c).2.1.symm
    · exact (final m c).2.2.1.symm
    · exact (final m c).2.2.2.symm

end Claims

end Cert.Proof.AdamWMod

end
-- ==== Proof.Rows.lean ====
/- Sums over rows: a factor moved into a sum, and a sum over tiles of rows put together as the sum over an array's rows. -/
module

public import Idealize.ShloMosaic.Lib.Pointwise

@[expose] public section

noncomputable section

open Idealize.ShloMosaic
open scoped BigOperators

namespace Cert.Proof.Rows

/-- The word of one half is the number one half. -/
theorem half_eq : Ideal.ofBits .f32 0x3F000000#32 = (((1 : ℝ) / 2 : ℝ) : EReal) := by
  simp [Ideal.ofBits, Ideal.ieee, -EReal.coe_mul]
  norm_num

/-- A nonnegative finite factor moves into a sum of extended reals. -/
theorem mul_sum {ι : Type} (a : EReal) (h0 : 0 ≤ a) (ht : a ≠ ⊤) (s : Finset ι) (f : ι → EReal) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

theorem half_mul_sum {ι : Type} (s : Finset ι) (f : ι → EReal) :
    Ideal.ofBits .f32 0x3F000000#32 * ∑ i ∈ s, f i = ∑ i ∈ s, Ideal.ofBits .f32 0x3F000000#32 * f i := by
  refine mul_sum _ ?_ ?_ s f
  · rw [half_eq]; exact_mod_cast (by norm_num : (0 : ℝ) ≤ 1 / 2)
  · rw [half_eq]; exact EReal.coe_ne_top _

/-- Sums over tiles of `n` rows and over groups of `q` rows of the same `J * n = B * q` rows agree. -/
theorem regroup (J n B q : ℕ) (hq : 0 < q) (hN : J * n = B * q) (f : Fin J → Fin n → EReal) (g : Fin B → Fin q → EReal)
    (h : ∀ (s : Fin J) (r : Fin n) (b : Fin B) (k : Fin q), b.val * q + k.val = s.val * n + r.val → f s r = g b k) :
    ∑ s, ∑ r, f s r = ∑ b, ∑ k, g b k := by
  have hb : ∀ l : Fin (B * q), l.val / q < B := fun l => (Nat.div_lt_iff_lt_mul hq).mpr l.isLt
  have hk : ∀ l : Fin (B * q), l.val % q < q := fun l => Nat.mod_lt _ hq
  have e : ∀ l : Fin (B * q), l.val / q * q + l.val % q = l.val := fun l => by rw [mul_comm]; exact Nat.div_add_mod _ _
  have hf : ∑ s, ∑ r, f s r = ∑ l : Fin (B * q), g ⟨l.val / q, hb l⟩ ⟨l.val % q, hk l⟩ := by
    rw [← Fin.sum_congr' _ hN]
    rw [← (finProdFinEquiv (m := J) (n := n)).sum_comp, Fintype.sum_prod_type]
    refine Finset.sum_congr rfl fun s _ => Finset.sum_congr rfl fun r _ => h s r _ _ ?_
    exact (e _).trans (by simp only [finProdFinEquiv_apply_val, Fin.val_cast]; ring)
  have hg : ∑ b, ∑ k, g b k = ∑ l : Fin (B * q), g ⟨l.val / q, hb l⟩ ⟨l.val % q, hk l⟩ := by
    rw [← (finProdFinEquiv (m := B) (n := q)).sum_comp, Fintype.sum_prod_type]
    refine Finset.sum_congr rfl fun b _ => Finset.sum_congr rfl fun k _ => ?_
    have h1 : (k.val + q * b.val) / q = b.val := by rw [Nat.add_mul_div_left _ _ hq, Nat.div_eq_of_lt k.isLt, zero_add]
    have h2 : (k.val + q * b.val) % q = k.val := by rw [Nat.add_mul_mod_self_left, Nat.mod_eq_of_lt k.isLt]
    exact congrArg₂ g (Fin.ext h1.symm) (Fin.ext h2.symm)
  rw [hf, hg]

/-- The host's sum over the first two of three axes, at an index. -/
theorem reduce_first_two {n0 n1 n2 : ℕ} (h : (⟨3, ![n0, n1, n2]⟩ : Shape).ReducesTo [0, 1] ⟨1, ![n2]⟩) (v : (⟨3, ![n0, n1, n2]⟩ : Shape).Idx → EReal) (a : EReal) (d : Fin n2) :
    Ideal.hostReduceAdd h v a (ix1 d) = a + ∑ p : Fin n0, ∑ q : Fin n1, v (ix3 p q d) := by
  refine congrArg (a + ·) ((Finset.sum_filter_eq_sum_of_fiber _ (fun k : Fin n0 × Fin n1 => ix3 k.1 k.2 d)
    (fun _ _ e => Prod.ext (congrFun e 0) (congrFun e 1)) (fun i => ⟨fun e => ⟨(i 0, i 1), ?_⟩, ?_⟩) v).trans (Fintype.sum_prod_type _))
  · have e2 := congrArg Fin.val (congrFun e 0)
    exact (congrArg (ix3 (i 0) (i 1)) (Fin.ext e2.symm)).trans (eq_ix3 i).symm
  · rintro ⟨k, rfl⟩
    funext b
    match b with
    | ⟨0, _⟩ => rfl

end Cert.Proof.Rows

end
-- ==== Proof.Head.lean ====
/- The last product, the final norm and the loss with its gradient in one pass over tiles of rows: what the kernel leaves in its five output arrays. -/
module

public import proofs.«01_k».proof.Proof.Gen.Kernel19Ideal.Value
public import proofs.«01_k».proof.Proof.Gen.Reference19Ideal.Run
public import proofs.«01_k».proof.Proof.Rows
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.Head

section Formula
open Cert.Reference19Ideal Cert.Reference19Ideal.Gen

/-- The product. -/
def product (a1 : FVec Ideal S8192x2816 .bf16) (a5 : FVec Ideal S2816x1024 .bf16) : FVec Ideal S4x2048x1024 .f32 :=
  shapeCast _ (Host.dotGeneral dot_S8192x2816_S2816x1024_S8192x1024_1_0_0_1_n_n none (extf .f32 a1 bitsLt_bf16_f32) (extf .f32 a5 bitsLt_bf16_f32)) shapeCasts_S8192x1024_S4x2048x1024

/-- The sum with half the gated product. -/
def total (a0 : FVec Ideal S8192x1024 .f32) (a1 : FVec Ideal S8192x2816 .bf16) (a3 : FVec Ideal S4x1x1024 .f32) (a5 : FVec Ideal S2816x1024 .bf16) : FVec Ideal S4x2048x1024 .f32 :=
  addf (shapeCast _ a0 shapeCasts_S8192x1024_S4x2048x1024) (mulf (broadcastInDim S4x2048x1024 ![0, 1, 2] bcast_S4x1x1024_S4x2048x1024_0_1_2 (mulf (broadcastInDim S4x1x1024 ![] bcast_S_S4x1x1024 (constant S_ .f32 0x3F000000#32)) a3)) (product a1 a5))

/-- The reciprocal root of the mean square. -/
def inv (a0 : FVec Ideal S8192x1024 .f32) (a1 : FVec Ideal S8192x2816 .bf16) (a3 : FVec Ideal S4x1x1024 .f32) (a5 : FVec Ideal S2816x1024 .bf16) : FVec Ideal S4x2048x1 .f32 :=
  Host.rsqrt (addf (Host.divf (broadcastInDim S4x2048x1 ![0, 1] bcast_S4x2048_S4x2048x1_0_1 (Host.reduceAdd (mulf (total a0 a1 a3 a5) (total a0 a1 a3 a5)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))

/-- Its slope. -/
def slope (a0 : FVec Ideal S8192x1024 .f32) (a1 : FVec Ideal S8192x2816 .bf16) (a3 : FVec Ideal S4x1x1024 .f32) (a5 : FVec Ideal S2816x1024 .bf16) : FVec Ideal S4x2048x1 .f32 :=
  mulf (broadcastInDim S4x2048x1 ![] bcast_S_S4x2048x1 (constant S_ .f32 0xBF000000#32)) (Host.divf (inv a0 a1 a3 a5) (addf (Host.divf (broadcastInDim S4x2048x1 ![0, 1] bcast_S4x2048_S4x2048x1_0_1 (Host.reduceAdd (mulf (total a0 a1 a3 a5) (total a0 a1 a3 a5)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))))

/-- The normalised rows. -/
def normed (a0 : FVec Ideal S8192x1024 .f32) (a1 : FVec Ideal S8192x2816 .bf16) (a3 : FVec Ideal S4x1x1024 .f32) (a5 : FVec Ideal S2816x1024 .bf16) : FVec Ideal S4x2048x1024 .f32 :=
  mulf (total a0 a1 a3 a5) (broadcastInDim S4x2048x1024 ![0, 1, 2] bcast_S4x2048x1_S4x2048x1024_0_1_2 (inv a0 a1 a3 a5))

/-- The residual. -/
def residual (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S4x2048x1024 .f32 :=
  subf (mulf (normed a0 a1 a3 a5) (broadcastInDim S4x2048x1024 ![0, 1, 2] bcast_S1x1x1024_S4x2048x1024_0_1_2 (broadcastInDim S1x1x1024 ![1, 2] bcast_S1x1024_S1x1x1024_1_2 a4))) a2

/-- Each row's mean squared residual. -/
def rowLoss (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S4x2048 .f32 :=
  Host.divf (Host.reduceAdd (mulf (residual a0 a1 a2 a3 a4 a5) (residual a0 a1 a2 a3 a4 a5)) (constant S_ .f32 0x00000000#32) reducesTo_S4x2048x1024_S4x2048_d2 h_S_) (broadcastInDim S4x2048 ![] bcast_S_S4x2048 (constant S_ .f32 0x44800000#32))

/-- The cotangent of the norm. -/
def ct (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S4x2048x1024 .f32 :=
  mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (residual a0 a1 a2 a3 a4 a5))

/-- The cotangent by the norm's weight. -/
def weighted (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S4x2048x1024 .f32 :=
  mulf (ct a0 a1 a2 a3 a4 a5) (broadcastInDim S4x2048x1024 ![0, 1, 2] bcast_S1x1x1024_S4x2048x1024_0_1_2 (broadcastInDim S1x1x1024 ![1, 2] bcast_S1x1024_S1x1x1024_1_2 a4))

/-- The gradient of the norm's weight. -/
def dWeight (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S1x1024 .f32 :=
  broadcastInDim S1x1024 ![1] bcast_S1024_S1x1024_1 (Host.reduceAdd (shapeCast _ (Host.reduceAdd (mulf (normed a0 a1 a3 a5) (ct a0 a1 a2 a3 a4 a5)) (constant S_ .f32 0x00000000#32) reducesTo_S4x2048x1024_S1024_d0_1 h_S_) shapeCasts_S1024_S1x1x1024) (constant S_ .f32 0x00000000#32) reducesTo_S1x1x1024_S1024_d0_1 h_S_)

/-- The correction along each row. -/
def along (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S4x2048x1024 .f32 :=
  broadcastInDim S4x2048x1024 ![0, 1] bcast_S4x2048_S4x2048x1024_0_1 (Host.reduceAdd (Host.divf (mulf (shapeCast _ (Host.reduceAdd (mulf (total a0 a1 a3 a5) (weighted a0 a1 a2 a3 a4 a5)) (constant S_ .f32 0x00000000#32) reducesTo_S4x2048x1024_S4x2048_d2 h_S_) shapeCasts_S4x2048_S4x2048x1) (slope a0 a1 a3 a5)) (broadcastInDim S4x2048x1 ![] bcast_S_S4x2048x1 (constant S_ .f32 0x44800000#32))) (constant S_ .f32 0x00000000#32) reducesTo_S4x2048x1_S4x2048_d2 h_S_)

/-- The gradient of the sum. -/
def dTotal (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S4x2048x1024 .f32 :=
  addf (addf (mulf (weighted a0 a1 a2 a3 a4 a5) (broadcastInDim S4x2048x1024 ![0, 1, 2] bcast_S4x2048x1_S4x2048x1024_0_1_2 (inv a0 a1 a3 a5))) (mulf (total a0 a1 a3 a5) (along a0 a1 a2 a3 a4 a5))) (mulf (along a0 a1 a2 a3 a4 a5) (total a0 a1 a3 a5))

/-- The gradient of the gate. -/
def dGate (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S4x1x1024 .f32 :=
  mulf (broadcastInDim S4x1x1024 ![] bcast_S_S4x1x1024 (constant S_ .f32 0x3F000000#32)) (shapeCast _ (Host.reduceAdd (mulf (dTotal a0 a1 a2 a3 a4 a5) (product a1 a5)) (constant S_ .f32 0x00000000#32) reducesTo_S4x2048x1024_S4x1024_d1 h_S_) shapeCasts_S4x1024_S4x1x1024)

/-- The gradient of the rows. -/
def dRows (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S8192x1024 .f32 :=
  shapeCast _ (dTotal a0 a1 a2 a3 a4 a5) shapeCasts_S4x2048x1024_S8192x1024

/-- The gradient of the product. -/
def dProduct (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S8192x1024 .bf16 :=
  truncf .bf16 (shapeCast _ (mulf (broadcastInDim S4x2048x1024 ![0, 1, 2] bcast_S4x1x1024_S4x2048x1024_0_1_2 (mulf (broadcastInDim S4x1x1024 ![] bcast_S_S4x1x1024 (constant S_ .f32 0x3F000000#32)) a3)) (dTotal a0 a1 a2 a3 a4 a5)) shapeCasts_S4x2048x1024_S8192x1024) bitsLt_bf16_f32

/-- The loss. -/
def loss (a0 : FVec Ideal S8192x1024 .f32) (a1 : FVec Ideal S8192x2816 .bf16) (a2 : FVec Ideal S4x2048x1024 .f32) (a3 : FVec Ideal S4x1x1024 .f32) (a4 : FVec Ideal S1x1024 .f32) (a5 : FVec Ideal S2816x1024 .bf16) : FVec Ideal S1x128 .f32 :=
  broadcastInDim S1x128 ![0, 1] bcast_S1x1_S1x128_0_1 (shapeCast _ (mulf (constant S_ .f32 0x3F000000#32) (Host.reduceAdd (rowLoss a0 a1 a2 a3 a4 a5) (constant S_ .f32 0x00000000#32) reducesTo_S4x2048_S_d0_1 h_S_)) shapeCasts_S_S1x1)

end Formula

section Kernel
open Cert.Kernel19Ideal Cert.Kernel19Ideal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0] ∧ win0_3.index t = ![t.val / 4, 0, 0]
    ∧ win0_4.index t = ![0, 0] ∧ win0_5.index t = ![0, 0] ∧ win0_6.index t = ![t.val, 0] ∧ win0_7.index t = ![t.val, 0] ∧ win0_8.index t = ![t.val / 4, 0, 0]
    ∧ win0_9.index t = ![0, 0] ∧ win0_10.index t = ![0, 0] :=
  (by decide +kernel : ∀ t : Fin grid0.N, _)

theorem product_tile (c : Dev nD) (t : Fin cfg0.N) (j : S512x1024.Idx) (b : Fin 4) (k : Fin 2048) (h : b.val * 2048 + k.val = t.val * 512 + (j 0).val) :
    k0_pay5 (iblk m c 1 t) (iblk m c 5 t) j = product (m ((c : Thread nD τ).loc main_arg1)) (m ((c : Thread nD τ).loc main_arg5)) (ix3 b k (j 1)) := by
  pointwise [k0_pay5, product]
  refine Finset.sum_congr rfl fun x _ => congrArg₂ (· * ·) ?_ ?_ <;> blk_point [iblk, V, idx_val t]

theorem total_tile (c : Dev nD) (t : Fin cfg0.N) (j : S512x1024.Idx) (b : Fin 4) (k : Fin 2048) (h : b.val * 2048 + k.val = t.val * 512 + (j 0).val) :
    k0_pay7 (iblk m c 0 t) (iblk m c 1 t) (iblk m c 3 t) (iblk m c 5 t) j = total (m ((c : Thread nD τ).loc main_arg0)) (m ((c : Thread nD τ).loc main_arg1)) (m ((c : Thread nD τ).loc main_arg3)) (m ((c : Thread nD τ).loc main_arg5)) (ix3 b k (j 1)) := by
  have hg : iblk m c 3 t (ix3 0 0 (j 1)) = (m ((c : Thread nD τ).loc main_arg3)) (ix3 b 0 (j 1)) := by blk_point [iblk, V, idx_val t]
  have hp := product_tile m c t j b k h
  pointwise [k0_pay7, k0_pay6, total, hg, hp]
  blk_point [iblk, V, idx_val t]

theorem inv_tile (c : Dev nD) (t : Fin cfg0.N) (j : S512x1024.Idx) (b : Fin 4) (k : Fin 2048) (h : b.val * 2048 + k.val = t.val * 512 + (j 0).val) :
    k0_pay9 (iblk m c 0 t) (iblk m c 1 t) (iblk m c 3 t) (iblk m c 5 t) (ix2 (j 0) 0) = inv (m ((c : Thread nD τ).loc main_arg0)) (m ((c : Thread nD τ).loc main_arg1)) (m ((c : Thread nD τ).loc main_arg3)) (m ((c : Thread nD τ).loc main_arg5)) (ix3 b k 0) := by
  have hx : ∀ d : Fin 1024, k0_pay7 (iblk m c 0 t) (iblk m c 1 t) (iblk m c 3 t) (iblk m c 5 t) (ix2 (j 0) d) = total (m ((c : Thread nD τ).loc main_arg0)) (m ((c : Thread nD τ).loc main_arg1)) (m ((c : Thread nD τ).loc main_arg3)) (m ((c : Thread nD τ).loc main_arg5)) (ix3 b k d) := fun d => total_tile m c t (ix2 (j 0) d) b k h
  pointwise [k0_pay9, k0_pay8, inv, hx]

theorem slope_tile (c : Dev nD) (t : Fin cfg0.N) (j : S512x1024.Idx) (b : Fin 4) (k : Fin 2048) (h : b.val * 2048 + k.val = t.val * 512 + (j 0).val) :
    k0_pay10 (iblk m c 0 t) (iblk m c 1 t) (iblk m c 3 t) (iblk m c 5 t) (ix2 (j 0) 0) = slope (m ((c : Thread nD τ).loc main_arg0)) (m ((c : Thread nD τ).loc main_arg1)) (m ((c : Thread nD τ).loc main_arg3)) (m ((c : Thread nD τ).loc main_arg5)) (ix3 b k 0) := by
  have hx : ∀ d : Fin 1024, k0_pay7 (iblk m c 0 t) (iblk m c 1 t) (iblk m c 3 t) (iblk m c 5 t) (ix2 (j 0) d) = total (m ((c : Thread nD τ).loc main_arg0)) (m ((c : Thread nD τ).loc main_arg1)) (m ((c : Thread nD τ).loc main_arg3)) (m ((c : Thread nD τ).loc main_arg5)) (ix3 b k d) := fun d => total_tile m c t (ix2 (j 0) d) b k h
  have hr : k0_pay9 (iblk m c 0 t) (iblk m c 1 t) (iblk m c 3 t) (iblk m c 5 t) (ix2 (j 0) 0) = inv (m ((c : Thread nD τ).loc main_arg0)) (m ((c : Thread nD τ).loc main_arg1)) (m ((c : Thread nD τ).loc main_arg3)) (m ((c : Thread nD τ).loc main_arg5)) (ix3 b k 0) := inv_tile m c t j b k h
  pointwise [k0_pay10, k0_pay8, slope, hx, hr]

theorem normed_tile (c : Dev nD) (t : Fin cfg0.N) (j : S512x1024.Idx) (b : Fin 4) (k : Fin 2048) (h : b.val * 2048 + k.val = t.val * 512 + (j 0).val) :
    k0_pay11 (iblk m c 0 t) (iblk m c 1 t) (iblk m c 3 t) (iblk m c 5 t) j = normed (m ((c : Thread nD τ).loc main_arg0)) (m ((c : Thread nD τ).loc main_arg1)) (m ((c : Thread nD τ).loc main_arg3)) (m ((c : Thread nD τ).loc main_arg5)) (ix3 b k (j 1)) := by
  have hx := total_tile m c t j b k h
  have hr : k0_pay9 (iblk m c 0 t) (iblk m c 1 t) (iblk m c 3 t) (iblk m c 5 t) (ix2 (j 0) 0) = inv (m ((c : Thread nD τ).loc main_arg0)) (m ((c : Thread nD τ).loc main_arg1)) (m ((c : Thread nD τ).loc main_arg3)) (m ((c : Thread nD τ).loc main_arg5)) (ix3 b k 0) := inv_tile m c t j b k h
  pointwise [k0_pay11, normed, hx, hr]

theorem residual_tile (c : Dev nD) (t : Fin cfg0.N) (j : S512x1024.Idx) (b : Fin 4) (k : Fin 2048) (h : b.val * 2048 + k.val = t.val * 512 + (j 0).val) :
    k0_pay12 (iblk m c 0 t) (iblk m c 1 t) (iblk m c 2 t) (iblk m c 3 t) (iblk m c 4 t) (iblk m c 5 t) j = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b k (j 1)) := by
  have hw : ∀ d : Fin 1024, iblk m c 4 t (ix2 0 d) = (m ((c : Thread nD τ).loc main_arg4)) (ix2 0 d) := fun d => by blk_point [iblk, V, idx_val t]
  have hn := normed_tile m c t j b k h
  have hl : iblk m c 2 t j = (m ((c : Thread nD τ).loc main_arg2)) (ix3 b k (j 1)) := by blk_point [iblk, V, idx_val t]
  pointwise [k0_pay12, residual, hn, hw, hl]

theorem ct_tile (c : Dev nD) (t : Fin cfg0.N) (j : S512x1024.Idx) (b : Fin 4) (k : Fin 2048) (h : b.val * 2048 + k.val = t.val * 512 + (j 0).val) :
    k0_pay15 (k0_pay13 (iblk m c 0 t) (iblk m c 1 t) (iblk m c 2 t) (iblk m c 3 t) (iblk m c 4 t) (iblk m c 5 t)) j = ct (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b k (j 1)) := by
  have he := residual_tile m c t j b k h
  pointwise [k0_pay15, k0_pay13, ct, he]

theorem rowLoss_tile (c : Dev nD) (t : Fin cfg0.N) (j : S512x1024.Idx) (b : Fin 4) (k : Fin 2048) (h : b.val * 2048 + k.val = t.val * 512 + (j 0).val) :
    k0_pay14 (iblk m c 0 t) (iblk m c 1 t) (iblk m c 2 t) (iblk m c 3 t) (iblk m c 4 t) (iblk m c 5 t) (ix2 0 (j 0)) = rowLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 b k) := by
  have he : ∀ d : Fin 1024, k0_pay12 (iblk m c 0 t) (iblk m c 1 t) (iblk m c 2 t) (iblk m c 3 t) (iblk m c 4 t) (iblk m c 5 t) (ix2 (j 0) d) = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b k d) := fun d => residual_tile m c t (ix2 (j 0) d) b k h
  pointwise [k0_pay14, rowLoss, he]

theorem dTotal_tile (c : Dev nD) (t : Fin cfg0.N) (j : S512x1024.Idx) (b : Fin 4) (k : Fin 2048) (h : b.val * 2048 + k.val = t.val * 512 + (j 0).val) :
    k0_pay17 (iblk m c 4 t) (k0_pay7 (iblk m c 0 t) (iblk m c 1 t) (iblk m c 3 t) (iblk m c 5 t)) (k0_pay9 (iblk m c 0 t) (iblk m c 1 t) (iblk m c 3 t) (iblk m c 5 t)) (k0_pay10 (iblk m c 0 t) (iblk m c 1 t) (iblk m c 3 t) (iblk m c 5 t)) (k0_pay13 (iblk m c 0 t) (iblk m c 1 t) (iblk m c 2 t) (iblk m c 3 t) (iblk m c 4 t) (iblk m c 5 t)) j = dTotal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b k (j 1)) := by
  have hx : ∀ d : Fin 1024, k0_pay7 (iblk m c 0 t) (iblk m c 1 t) (iblk m c 3 t) (iblk m c 5 t) (ix2 (j 0) d) = total (m ((c : Thread nD τ).loc main_arg0)) (m ((c : Thread nD τ).loc main_arg1)) (m ((c : Thread nD τ).loc main_arg3)) (m ((c : Thread nD τ).loc main_arg5)) (ix3 b k d) := fun d => total_tile m c t (ix2 (j 0) d) b k h
  have hc : ∀ d : Fin 1024, k0_pay15 (k0_pay13 (iblk m c 0 t) (iblk m c 1 t) (iblk m c 2 t) (iblk m c 3 t) (iblk m c 4 t) (iblk m c 5 t)) (ix2 (j 0) d) = ct (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b k d) := fun d => ct_tile m c t (ix2 (j 0) d) b k h
  have hr : k0_pay9 (iblk m c 0 t) (iblk m c 1 t) (iblk m c 3 t) (iblk m c 5 t) (ix2 (j 0) 0) = inv (m ((c : Thread nD τ).loc main_arg0)) (m ((c : Thread nD τ).loc main_arg1)) (m ((c : Thread nD τ).loc main_arg3)) (m ((c : Thread nD τ).loc main_arg5)) (ix3 b k 0) := inv_tile m c t j b k h
  have hs : k0_pay10 (iblk m c 0 t) (iblk m c 1 t) (iblk m c 3 t) (iblk m c 5 t) (ix2 (j 0) 0) = slope (m ((c : Thread nD τ).loc main_arg0)) (m ((c : Thread nD τ).loc main_arg1)) (m ((c : Thread nD τ).loc main_arg3)) (m ((c : Thread nD τ).loc main_arg5)) (ix3 b k 0) := slope_tile m c t j b k h
  have hw : ∀ d : Fin 1024, iblk m c 4 t (ix2 0 d) = (m ((c : Thread nD τ).loc main_arg4)) (ix2 0 d) := fun d => by blk_point [iblk, V, idx_val t]
  have hx' := total_tile m c t j b k h
  have hc' := ct_tile m c t j b k h
  pointwise [k0_pay17, dTotal, weighted, along, hx, hc, hr, hs, hw, hx', hc']
  simp only [Fin.sum_univ_one, hs]

theorem stored6 (c : Dev nD) (t : Fin cfg0.N) : (outsAt0 m c t.val t.isLt).1 = k0_pay17 (iblk m c 4 t) (k0_pay7 (iblk m c 0 t) (iblk m c 1 t) (iblk m c 3 t) (iblk m c 5 t)) (k0_pay9 (iblk m c 0 t) (iblk m c 1 t) (iblk m c 3 t) (iblk m c 5 t)) (k0_pay10 (iblk m c 0 t) (iblk m c 1 t) (iblk m c 3 t) (iblk m c 5 t)) (k0_pay13 (iblk m c 0 t) (iblk m c 1 t) (iblk m c 2 t) (iblk m c 3 t) (iblk m c 4 t) (iblk m c 5 t)) := by
  have hN : cfg0.N = 16 := N_0
  have hl := t.isLt
  by_cases h4 : t.val % 4 = 0
  · by_cases h0 : t.val = 0
    · rw [outsAt0_A m c t h4 (by omega) (by omega) (by omega) (by omega) (by omega)]
      dsimp only
      frame_out
    · rw [outsAt0_C m c t h4 (by omega) (by omega) (by omega) (by omega) (by omega)]
      dsimp only
      frame_out
  · rw [outsAt0_B m c t h4 (by omega) (by omega) (by omega) (by omega) (by omega)]
    dsimp only
    frame_out

theorem stored7 (c : Dev nD) (t : Fin cfg0.N) : (outsAt0 m c t.val t.isLt).2.1 = k0_pay20 (iblk m c 4 t) (k0_pay6 (iblk m c 3 t)) (k0_pay7 (iblk m c 0 t) (iblk m c 1 t) (iblk m c 3 t) (iblk m c 5 t)) (k0_pay9 (iblk m c 0 t) (iblk m c 1 t) (iblk m c 3 t) (iblk m c 5 t)) (k0_pay10 (iblk m c 0 t) (iblk m c 1 t) (iblk m c 3 t) (iblk m c 5 t)) (k0_pay13 (iblk m c 0 t) (iblk m c 1 t) (iblk m c 2 t) (iblk m c 3 t) (iblk m c 4 t) (iblk m c 5 t)) := by
  have hN : cfg0.N = 16 := N_0
  have hl := t.isLt
  by_cases h4 : t.val % 4 = 0
  · by_cases h0 : t.val = 0
    · rw [outsAt0_A m c t h4 (by omega) (by omega) (by omega) (by omega) (by omega)]
      dsimp only
      frame_out
    · rw [outsAt0_C m c t h4 (by omega) (by omega) (by omega) (by omega) (by omega)]
      dsimp only
      frame_out
  · rw [outsAt0_B m c t h4 (by omega) (by omega) (by omega) (by omega) (by omega)]
    dsimp only
    frame_out

theorem dProduct_tile (c : Dev nD) (t : Fin cfg0.N) (j : S512x1024.Idx) (b : Fin 4) (k : Fin 2048) (h : b.val * 2048 + k.val = t.val * 512 + (j 0).val) :
    k0_pay20 (iblk m c 4 t) (k0_pay6 (iblk m c 3 t)) (k0_pay7 (iblk m c 0 t) (iblk m c 1 t) (iblk m c 3 t) (iblk m c 5 t)) (k0_pay9 (iblk m c 0 t) (iblk m c 1 t) (iblk m c 3 t) (iblk m c 5 t)) (k0_pay10 (iblk m c 0 t) (iblk m c 1 t) (iblk m c 3 t) (iblk m c 5 t)) (k0_pay13 (iblk m c 0 t) (iblk m c 1 t) (iblk m c 2 t) (iblk m c 3 t) (iblk m c 4 t) (iblk m c 5 t)) j = dProduct (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨b.val * 2048 + k.val, by omega⟩ (j 1)) := by
  have hg : iblk m c 3 t (ix3 0 0 (j 1)) = (m ((c : Thread nD τ).loc main_arg3)) (ix3 b 0 (j 1)) := by blk_point [iblk, V, idx_val t]
  have hd := dTotal_tile m c t j b k h
  have hk := k.isLt
  pointwise [k0_pay20, k0_pay6, dProduct, hg, hd]

theorem dRows_tile (c : Dev nD) (t : Fin cfg0.N) (j : S512x1024.Idx) (b : Fin 4) (k : Fin 2048) (h : b.val * 2048 + k.val = t.val * 512 + (j 0).val) :
    k0_pay17 (iblk m c 4 t) (k0_pay7 (iblk m c 0 t) (iblk m c 1 t) (iblk m c 3 t) (iblk m c 5 t)) (k0_pay9 (iblk m c 0 t) (iblk m c 1 t) (iblk m c 3 t) (iblk m c 5 t)) (k0_pay10 (iblk m c 0 t) (iblk m c 1 t) (iblk m c 3 t) (iblk m c 5 t)) (k0_pay13 (iblk m c 0 t) (iblk m c 1 t) (iblk m c 2 t) (iblk m c 3 t) (iblk m c 4 t) (iblk m c 5 t)) j = dRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨b.val * 2048 + k.val, by omega⟩ (j 1)) := by
  have hd := dTotal_tile m c t j b k h
  have hk := k.isLt
  pointwise [dRows, hd]

theorem point6 (c : Dev nD) (t : Fin cfg0.N) (y : S512x1024.Idx) :
    (outsAt0 m c t.val t.isLt).1 y = dRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  rw [stored6]
  have hN : cfg0.N = 16 := N_0
  have hl := t.isLt
  have hy : (y 0).val < 512 := (y 0).isLt
  have hb : (t.val * 512 + (y 0).val) / 2048 * 2048 + (t.val * 512 + (y 0).val) % 2048 = t.val * 512 + (y 0).val := by omega
  refine (dRows_tile m c t y ⟨(t.val * 512 + (y 0).val) / 2048, by omega⟩ ⟨(t.val * 512 + (y 0).val) % 2048, by omega⟩ hb).trans ?_
  have h0 : ((((cfg0.win 6).blk t).view.emb y) 0).val = t.val * 512 + (y 0).val := by blk_point [idx_val t]
  have h1 : ((((cfg0.win 6).blk t).view.emb y) 1).val = (y 1).val := by blk_point [idx_val t]
  revert h0 h1
  generalize ((cfg0.win 6).blk t).view.emb y = i
  intro h0 h1
  refine congrArg _ ((congrArg₂ ix2 (Fin.ext ?_) (Fin.ext h1.symm)).trans (eq_ix2 (n0 := 8192) (n1 := 1024) i).symm)
  exact hb.trans h0.symm

theorem final6 (c : Dev nD) : (dats m 0 c).arrAt 6 (cfgs 0).N = dRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  exact point6 m c t y

theorem point7 (c : Dev nD) (t : Fin cfg0.N) (y : S512x1024.Idx) :
    (outsAt0 m c t.val t.isLt).2.1 y = dProduct (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  rw [stored7]
  have hN : cfg0.N = 16 := N_0
  have hl := t.isLt
  have hy : (y 0).val < 512 := (y 0).isLt
  have hb : (t.val * 512 + (y 0).val) / 2048 * 2048 + (t.val * 512 + (y 0).val) % 2048 = t.val * 512 + (y 0).val := by omega
  refine (dProduct_tile m c t y ⟨(t.val * 512 + (y 0).val) / 2048, by omega⟩ ⟨(t.val * 512 + (y 0).val) % 2048, by omega⟩ hb).trans ?_
  have h0 : ((((cfg0.win 7).blk t).view.emb y) 0).val = t.val * 512 + (y 0).val := by blk_point [idx_val t]
  have h1 : ((((cfg0.win 7).blk t).view.emb y) 1).val = (y 1).val := by blk_point [idx_val t]
  revert h0 h1
  generalize ((cfg0.win 7).blk t).view.emb y = i
  intro h0 h1
  refine congrArg _ ((congrArg₂ ix2 (Fin.ext ?_) (Fin.ext h1.symm)).trans (eq_ix2 (n0 := 8192) (n1 := 1024) i).symm)
  exact hb.trans h0.symm

theorem final7 (c : Dev nD) : (dats m 0 c).arrAt 7 (cfgs 0).N = dProduct (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]
  exact point7 m c t y

/-- One tile's part of the gate's gradient. -/
abbrev part8 (c : Dev nD) (t : Fin cfg0.N) : FVec Ideal S1x1024 .f32 := k0_pay18 (iblk m c 4 t) (k0_pay5 (iblk m c 1 t) (iblk m c 5 t)) (k0_pay7 (iblk m c 0 t) (iblk m c 1 t) (iblk m c 3 t) (iblk m c 5 t)) (k0_pay9 (iblk m c 0 t) (iblk m c 1 t) (iblk m c 3 t) (iblk m c 5 t)) (k0_pay10 (iblk m c 0 t) (iblk m c 1 t) (iblk m c 3 t) (iblk m c 5 t)) (k0_pay13 (iblk m c 0 t) (iblk m c 1 t) (iblk m c 2 t) (iblk m c 3 t) (iblk m c 4 t) (iblk m c 5 t))

theorem step8 (v : FVec Ideal S1x1024 .f32) (a : FVec Ideal S1x1x1024 .f32) (j : S1x1x1024.Idx) : k0_pay2 v a j = a j + v (ix2 0 (j 2)) := by
  pointwise [k0_pay2]

/-- The array when a run of points ends: the sum of the run's parts. -/
theorem acc8 (c : Dev nD) (t : Fin cfg0.N) (h : t.val % 4 = 4 - 1) (j : S1x1x1024.Idx) :
    (outsAt0 m c t.val t.isLt).2.2.1 j = ∑ s : Fin 4, part8 m c ⟨4 * (t.val / 4) + s.val, Pipeline.run_point_lt_of_flush t h s⟩ (ix2 0 (j 2)) := by
  have hN : cfg0.N = 16 := N_0
  rw [Pipeline.eq_sum_fin_of_reset_step_apply_of_flush (fun n h => (outsAt0 m c n h).2.2.1) 4 (fun _ => (0 : EReal))
    (fun t j => part8 m c t (ix2 0 (j 2)))
    (fun t h j => by
      have := t.isLt
      rw [zero_add]
      by_cases h0 : t.val = 0
      · rw [outsAt0_A m c t (by omega) (by omega) (by omega) (by omega) (by omega) (by omega)]
        dsimp only
        frame_out
        pointwise [part8, k0_pay1]
      · rw [outsAt0_C m c t (by omega) (by omega) (by omega) (by omega) (by omega) (by omega)]
        dsimp only
        frame_out
        pointwise [part8, k0_pay1])
    (fun t h j => by
      have := t.isLt
      rw [outsAt0_B m c t (by omega) (by omega) (by omega) (by omega) (by omega) (by omega)]
      dsimp only
      frame_out
      exact step8 _ _ j)
    t h j, zero_add]

/-- One tile's part of the norm's weight's gradient. -/
abbrev part9 (c : Dev nD) (t : Fin cfg0.N) : FVec Ideal S1x1024 .f32 := k0_pay16 (k0_pay11 (iblk m c 0 t) (iblk m c 1 t) (iblk m c 3 t) (iblk m c 5 t)) (k0_pay13 (iblk m c 0 t) (iblk m c 1 t) (iblk m c 2 t) (iblk m c 3 t) (iblk m c 4 t) (iblk m c 5 t))

theorem step9 (v : FVec Ideal S1x1024 .f32) (a : FVec Ideal S1x1024 .f32) (j : S1x1024.Idx) : k0_pay3 v a j = a j + v j := by
  pointwise [k0_pay3]

/-- The array when a run of points ends: the sum of the run's parts. -/
theorem acc9 (c : Dev nD) (t : Fin cfg0.N) (h : t.val % 16 = 16 - 1) (j : S1x1024.Idx) :
    (outsAt0 m c t.val t.isLt).2.2.2.1 j = ∑ s : Fin 16, part9 m c ⟨16 * (t.val / 16) + s.val, Pipeline.run_point_lt_of_flush t h s⟩ j := by
  have hN : cfg0.N = 16 := N_0
  rw [Pipeline.eq_sum_fin_of_reset_step_apply_of_flush (fun n h => (outsAt0 m c n h).2.2.2.1) 16 (fun _ => (0 : EReal))
    (fun t j => part9 m c t j)
    (fun t h j => by
      have := t.isLt
      rw [zero_add]
      rw [outsAt0_A m c t (by omega) (by omega) (by omega) (by omega) (by omega) (by omega)]
      dsimp only
      frame_out)
    (fun t h j => by
      have := t.isLt
      by_cases h4 : t.val % 4 = 0
      · rw [outsAt0_C m c t (by omega) (by omega) (by omega) (by omega) (by omega) (by omega)]
        dsimp only
        frame_out
        exact step9 _ _ j
      · rw [outsAt0_B m c t (by omega) (by omega) (by omega) (by omega) (by omega) (by omega)]
        dsimp only
        frame_out
        exact step9 _ _ j)
    t h j, zero_add]

/-- One tile's part of the loss. -/
abbrev part10 (c : Dev nD) (t : Fin cfg0.N) : FVec Ideal S1x128 .f32 := k0_pay19 (k0_pay14 (iblk m c 0 t) (iblk m c 1 t) (iblk m c 2 t) (iblk m c 3 t) (iblk m c 4 t) (iblk m c 5 t))

theorem step10 (v : FVec Ideal S1x128 .f32) (a : FVec Ideal S1x128 .f32) (j : S1x128.Idx) : k0_pay4 v a j = a j + v j := by
  pointwise [k0_pay4]

/-- The array when a run of points ends: the sum of the run's parts. -/
theorem acc10 (c : Dev nD) (t : Fin cfg0.N) (h : t.val % 16 = 16 - 1) (j : S1x128.Idx) :
    (outsAt0 m c t.val t.isLt).2.2.2.2 j = ∑ s : Fin 16, part10 m c ⟨16 * (t.val / 16) + s.val, Pipeline.run_point_lt_of_flush t h s⟩ j := by
  have hN : cfg0.N = 16 := N_0
  rw [Pipeline.eq_sum_fin_of_reset_step_apply_of_flush (fun n h => (outsAt0 m c n h).2.2.2.2) 16 (fun _ => (0 : EReal))
    (fun t j => part10 m c t j)
    (fun t h j => by
      have := t.isLt
      rw [zero_add]
      rw [outsAt0_A m c t (by omega) (by omega) (by omega) (by omega) (by omega) (by omega)]
      dsimp only
      frame_out)
    (fun t h j => by
      have := t.isLt
      by_cases h4 : t.val % 4 = 0
      · rw [outsAt0_C m c t (by omega) (by omega) (by omega) (by omega) (by omega) (by omega)]
        dsimp only
        frame_out
        exact step10 _ _ j
      · rw [outsAt0_B m c t (by omega) (by omega) (by omega) (by omega) (by omega) (by omega)]
        dsimp only
        frame_out
        exact step10 _ _ j)
    t h j, zero_add]

theorem part8_apply (c : Dev nD) (t : Fin cfg0.N) (d : Fin 1024) :
    part8 m c t (ix2 0 d) = Ideal.ofBits .f32 0x3F000000#32 * ∑ r : Fin 512, (k0_pay17 (iblk m c 4 t) (k0_pay7 (iblk m c 0 t) (iblk m c 1 t) (iblk m c 3 t) (iblk m c 5 t)) (k0_pay9 (iblk m c 0 t) (iblk m c 1 t) (iblk m c 3 t) (iblk m c 5 t)) (k0_pay10 (iblk m c 0 t) (iblk m c 1 t) (iblk m c 3 t) (iblk m c 5 t)) (k0_pay13 (iblk m c 0 t) (iblk m c 1 t) (iblk m c 2 t) (iblk m c 3 t) (iblk m c 4 t) (iblk m c 5 t)) (ix2 r d) * k0_pay5 (iblk m c 1 t) (iblk m c 5 t) (ix2 r d) : EReal) := by
  pointwise [part8, k0_pay18]

theorem dGate_apply (a0 : FVec Ideal Cert.Reference19Ideal.S8192x1024 .f32) (a1 : FVec Ideal Cert.Reference19Ideal.S8192x2816 .bf16) (a2 : FVec Ideal Cert.Reference19Ideal.S4x2048x1024 .f32) (a3 : FVec Ideal Cert.Reference19Ideal.S4x1x1024 .f32) (a4 : FVec Ideal Cert.Reference19Ideal.S1x1024 .f32) (a5 : FVec Ideal Cert.Reference19Ideal.S2816x1024 .bf16) (b : Fin 4) (d : Fin 1024) :
    dGate a0 a1 a2 a3 a4 a5 (ix3 b 0 d) = Ideal.ofBits .f32 0x3F000000#32 * ∑ k : Fin 2048, (dTotal a0 a1 a2 a3 a4 a5 (ix3 b k d) * product a1 a5 (ix3 b k d) : EReal) := by
  pointwise [dGate]

theorem part9_apply (c : Dev nD) (t : Fin cfg0.N) (d : Fin 1024) :
    part9 m c t (ix2 0 d) = ∑ r : Fin 512, (k0_pay11 (iblk m c 0 t) (iblk m c 1 t) (iblk m c 3 t) (iblk m c 5 t) (ix2 r d) * k0_pay15 (k0_pay13 (iblk m c 0 t) (iblk m c 1 t) (iblk m c 2 t) (iblk m c 3 t) (iblk m c 4 t) (iblk m c 5 t)) (ix2 r d) : EReal) := by
  pointwise [part9, k0_pay16]

theorem dWeight_apply (a0 : FVec Ideal Cert.Reference19Ideal.S8192x1024 .f32) (a1 : FVec Ideal Cert.Reference19Ideal.S8192x2816 .bf16) (a2 : FVec Ideal Cert.Reference19Ideal.S4x2048x1024 .f32) (a3 : FVec Ideal Cert.Reference19Ideal.S4x1x1024 .f32) (a4 : FVec Ideal Cert.Reference19Ideal.S1x1024 .f32) (a5 : FVec Ideal Cert.Reference19Ideal.S2816x1024 .bf16) (d : Fin 1024) :
    dWeight a0 a1 a2 a3 a4 a5 (ix2 0 d) = ∑ b : Fin 4, ∑ k : Fin 2048, (normed a0 a1 a3 a5 (ix3 b k d) * ct a0 a1 a2 a3 a4 a5 (ix3 b k d) : EReal) := by
  pointwise [dWeight, Rows.reduce_first_two]
  simp only [Fin.sum_univ_one]

theorem part10_apply (c : Dev nD) (t : Fin cfg0.N) (j : S1x128.Idx) :
    part10 m c t j = Ideal.ofBits .f32 0x3F000000#32 * ∑ r : Fin 512, (k0_pay14 (iblk m c 0 t) (iblk m c 1 t) (iblk m c 2 t) (iblk m c 3 t) (iblk m c 4 t) (iblk m c 5 t) (ix2 0 r) : EReal) := by
  pointwise [part10, k0_pay19]

theorem loss_apply (a0 : FVec Ideal Cert.Reference19Ideal.S8192x1024 .f32) (a1 : FVec Ideal Cert.Reference19Ideal.S8192x2816 .bf16) (a2 : FVec Ideal Cert.Reference19Ideal.S4x2048x1024 .f32) (a3 : FVec Ideal Cert.Reference19Ideal.S4x1x1024 .f32) (a4 : FVec Ideal Cert.Reference19Ideal.S1x1024 .f32) (a5 : FVec Ideal Cert.Reference19Ideal.S2816x1024 .bf16) (j : S1x128.Idx) :
    loss a0 a1 a2 a3 a4 a5 j = Ideal.ofBits .f32 0x3F000000#32 * ∑ b : Fin 4, ∑ k : Fin 2048, (rowLoss a0 a1 a2 a3 a4 a5 (ix2 b k) : EReal) := by
  pointwise [loss]

theorem point8 (c : Dev nD) (t : Fin cfg0.N) (h : t.val % 4 = 4 - 1) (y : S1x1x1024.Idx) :
    (outsAt0 m c t.val t.isLt).2.2.1 y = dGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  have hN : cfg0.N = 16 := N_0
  have hl := t.isLt
  have hb : t.val / 4 < 4 := by omega
  have e : ((cfg0.win 8).blk t).view.emb y = ix3 (n0 := 4) (n1 := 1) (n2 := 1024) ⟨t.val / 4, hb⟩ 0 (y 2) := by
    idx_vars y
    blk_point [idx_val t]
  refine (acc8 m c t h y).trans (Eq.trans ?_ ((congrArg _ e).trans (dGate_apply _ _ _ _ _ _ ⟨t.val / 4, hb⟩ (y 2))).symm)
  refine (Finset.sum_congr rfl fun s _ => part8_apply m c _ (y 2)).trans ((Rows.half_mul_sum _ _).symm.trans (congrArg _ ?_))
  refine (Rows.regroup 4 512 1 2048 (by norm_num) rfl _ (fun _ k => (dTotal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨t.val / 4, hb⟩ k (y 2)) * product (m ((c : Thread nD τ).loc main_arg1)) (m ((c : Thread nD τ).loc main_arg5)) (ix3 ⟨t.val / 4, hb⟩ k (y 2)) : EReal)) fun s r b k hk => ?_).trans (Fin.sum_univ_one _)
  exact congrArg₂ (· * ·) (dTotal_tile m c _ (ix2 r (y 2)) ⟨t.val / 4, hb⟩ k (by change t.val / 4 * 2048 + k.val = (4 * (t.val / 4) + s.val) * 512 + r.val; omega))
    (product_tile m c _ (ix2 r (y 2)) ⟨t.val / 4, hb⟩ k (by change t.val / 4 * 2048 + k.val = (4 * (t.val / 4) + s.val) * 512 + r.val; omega))

theorem point9 (c : Dev nD) (t : Fin cfg0.N) (h : t.val % 16 = 16 - 1) (y : S1x1024.Idx) :
    (outsAt0 m c t.val t.isLt).2.2.2.1 y = dWeight (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  have hN : cfg0.N = 16 := N_0
  have hl := t.isLt
  have e : ((cfg0.win 9).blk t).view.emb y = ix2 (n0 := 1) (n1 := 1024) 0 (y 1) := by
    idx_vars y
    blk_point [idx_val t]
  have ey : y = ix2 (n0 := 1) (n1 := 1024) 0 (y 1) := (eq_ix2 y).trans (congrArg (fun i => ix2 i (y 1)) (Subsingleton.elim (α := Fin 1) _ _))
  refine (acc9 m c t h y).trans (Eq.trans ?_ ((congrArg _ e).trans (dWeight_apply _ _ _ _ _ _ (y 1))).symm)
  refine (Finset.sum_congr rfl fun s _ => (congrArg _ ey).trans (part9_apply m c _ (y 1))).trans ?_
  refine Rows.regroup 16 512 4 2048 (by norm_num) rfl _ _ fun s r b k hk => ?_
  exact congrArg₂ (· * ·) (normed_tile m c _ (ix2 r (y 1)) b k (by change b.val * 2048 + k.val = (16 * (t.val / 16) + s.val) * 512 + r.val; omega))
    (ct_tile m c _ (ix2 r (y 1)) b k (by change b.val * 2048 + k.val = (16 * (t.val / 16) + s.val) * 512 + r.val; omega))

theorem point10 (c : Dev nD) (t : Fin cfg0.N) (h : t.val % 16 = 16 - 1) (y : S1x128.Idx) :
    (outsAt0 m c t.val t.isLt).2.2.2.2 y = loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 10).blk t).view.emb y) := by
  have hN : cfg0.N = 16 := N_0
  have hl := t.isLt
  refine (acc10 m c t h y).trans (Eq.trans ?_ (loss_apply _ _ _ _ _ _ _).symm)
  refine (Finset.sum_congr rfl fun s _ => part10_apply m c _ y).trans ((Rows.half_mul_sum _ _).symm.trans (congrArg _ ?_))
  refine Rows.regroup 16 512 4 2048 (by norm_num) rfl _ _ fun s r b k hk => ?_
  exact rowLoss_tile m c _ (ix2 r 0) b k (by change b.val * 2048 + k.val = (16 * (t.val / 16) + s.val) * 512 + r.val; omega)

theorem final8 (c : Dev nD) : (dats m 0 c).arrAt 8 (cfgs 0).N = dGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp; rw [after0_8]
  exact point8 m c t ((flush0_8 t).mp hf) y

theorem final9 (c : Dev nD) : (dats m 0 c).arrAt 9 (cfgs 0).N = dWeight (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp; rw [after0_9]
  exact point9 m c t ((flush0_9 t).mp hf) y

theorem final10 (c : Dev nD) : (dats m 0 c).arrAt 10 (cfgs 0).N = loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp; rw [after0_10]
  exact point10 m c t ((flush0_10 t).mp hf) y

end Kernel

section Claims

theorem reference_quiescent : quiescent_Reference19Ideal := fun m g _ =>
  (θ_run Cert.Reference19Ideal.defs _ _).mono (fun r h => ⟨fun c => (h c).2.2.2.2.2, sem_eq_zero_of_no_sems (by decide) r.2⟩) (Cert.Reference19Ideal.Value.run m g)

set_option maxHeartbeats 4000000 in
theorem agrees : algebraic_Kernel19Ideal_Reference19Ideal := by
  pair_intro
  · run_from Cert.Kernel19Ideal.Gen.run_main _ _
  · run_from Cert.Reference19Ideal.Value.run _ _
    · obtain ⟨h0, h1, h2, h3, h4, h5⟩ := hagree c
      unfold Cert.Reference19Ideal.Value.res_main_v69
      rw [h0, h1, h2, h3, h4, h5]
      exact (final6 m c).symm
    · obtain ⟨h0, h1, h2, h3, h4, h5⟩ := hagree c
      unfold Cert.Reference19Ideal.Value.res_main_v71
      rw [h0, h1, h2, h3, h4, h5]
      exact (final7 m c).symm
    · obtain ⟨h0, h1, h2, h3, h4, h5⟩ := hagree c
      unfold Cert.Reference19Ideal.Value.res_main_v68
      rw [h0, h1, h2, h3, h4, h5]
      exact (final8 m c).symm
    · obtain ⟨h0, h1, h2, h3, h4, h5⟩ := hagree c
      unfold Cert.Reference19Ideal.Value.res_main_v47
      rw [h0, h1, h2, h3, h4, h5]
      exact (final9 m c).symm
    · obtain ⟨h0, h1, h2, h3, h4, h5⟩ := hagree c
      unfold Cert.Reference19Ideal.Value.res_main_v73
      rw [h0, h1, h2, h3, h4, h5]
      exact (final10 m c).symm

end Claims

end Cert.Proof.Head

end
-- ==== Proof.SumSmall.lean ====
/- The sums over the devices of the small gradients and of the loss. -/
module

public import proofs.«01_k».proof.Proof.Gen.Kernel20Ideal.Value
public import proofs.«01_k».proof.Proof.Gen.Reference20Ideal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.SumSmall

section Kernel
open Cert.Kernel20Ideal Cert.Kernel20Ideal.Gen

variable (m : (ℓ : Loc nD τ sig) → Buf (Elt Ideal) ℓ)

theorem idx_val : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem whole0 (c : Dev nD) (t : Fin cfg0.N) : iblk m c 0 t = m ((c : Thread nD τ).loc main_arg0) := by
  funext i
  idx_vars i
  blk_point [iblk, V, idx_val t]

theorem point5 (c : Dev nD) (t : Fin cfg0.N) (y : S16x1024.Idx) :
    out0_5 (iblk m c 0 t) (iblk m c 1 t) (iblk m c 2 t) (iblk m c 3 t) (iblk m c 4 t) y
      = Host.reduceAdd (F := Ideal) (m ((c : Thread nD τ).loc main_arg0)) (constant Cert.Reference20Ideal.S_ .f32 0x00000000#32) Cert.Reference20Ideal.Gen.reducesTo_S8x16x1024_S16x1024_d0 Cert.Reference20Ideal.Gen.h_S_ (((cfg0.win 5).blk t).view.emb y) := by
  have h0 : ((((cfg0.win 5).blk t).view.emb y) 0).val = (y 0).val := by blk_point [idx_val t]
  have h1 : ((((cfg0.win 5).blk t).view.emb y) 1).val = (y 1).val := by blk_point [idx_val t]
  rw [whole0, show ((cfg0.win 5).blk t).view.emb y = y from (eq_ix2 (n0 := 16) (n1 := 1024) _).trans ((congrArg₂ ix2 (Fin.ext h0) (Fin.ext h1)).trans (eq_ix2 y).symm)]
  canon_tiles x h
  all_goals
    open_payloads
    pointwise [View.ld_apply]
    simp only [Fin.sum_univ_castSucc, Fin.sum_univ_zero, zero_add]
    rw [show y 0 = x 0 from Fin.ext h0, show y 1 = x 1 from Fin.ext h1]
    rfl

theorem final5 (c : Dev nD) : (dats m 0 c).arrAt 5 (cfgs 0).N
      = Host.reduceAdd (F := Ideal) (m ((c : Thread nD τ).loc main_arg0)) (constant Cert.Reference20Ideal.S_ .f32 0x00000000#32) Cert.Reference20Ideal.Gen.reducesTo_S8x16x1024_S16x1024_d0 Cert.Reference20Ideal.Gen.h_S_ := by
  refine (dats m 0 c).arrAt_eq_of_covers 5 _ (by decide +kernel) fun t hf y => ?_
  blk_simp; rw [after0_5]
  exact point5 m c t y

theorem whole1 (c : Dev nD) (t : Fin cfg0.N) : iblk m c 1 t = m ((c : Thread nD τ).loc main_arg1) := by
  funext i
  idx_vars i
  blk_point [iblk, V, idx_val t]

theorem point6 (c : Dev nD) (t : Fin cfg0.N) (y : S32x1024.Idx) :
    out0_6 (iblk m c 0 t) (iblk m c 1 t) (iblk m c 2 t) (iblk m c 3 t) (iblk m c 4 t) y
      = Host.reduceAdd (F := Ideal) (m ((c : Thread nD τ).loc main_arg1)) (constant Cert.Reference20Ideal.S_ .f32 0x00000000#32) Cert.Reference20Ideal.Gen.reducesTo_S8x32x1024_S32x1024_d0 Cert.Reference20Ideal.Gen.h_S_ (((cfg0.win 6).blk t).view.emb y) := by
  have h0 : ((((cfg0.win 6).blk t).view.emb y) 0).val = (y 0).val := by blk_point [idx_val t]
  have h1 : ((((cfg0.win 6).blk t).view.emb y) 1).val = (y 1).val := by blk_point [idx_val t]
  rw [whole1, show ((cfg0.win 6).blk t).view.emb y = y from (eq_ix2 (n0 := 32) (n1 := 1024) _).trans ((congrArg₂ ix2 (Fin.ext h0) (Fin.ext h1)).trans (eq_ix2 y).symm)]
  canon_tiles x h
  all_goals
    open_payloads
    pointwise [View.ld_apply]
    simp only [Fin.sum_univ_castSucc, Fin.sum_univ_zero, zero_add]
    rw [show y 0 = x 0 from Fin.ext h0, show y 1 = x 1 from Fin.ext h1]
    rfl

theorem final6 (c : Dev nD) : (dats m 0 c).arrAt 6 (cfgs 0).N
      = Host.reduceAdd (F := Ideal) (m ((c : Thread nD τ).loc main_arg1)) (constant Cert.Reference20Ideal.S_ .f32 0x00000000#32) Cert.Reference20Ideal.Gen.reducesTo_S8x32x1024_S32x1024_d0 Cert.Reference20Ideal.Gen.h_S_ := by
  refine (dats m 0 c).arrAt_eq_of_covers 6 _ (by decide +kernel) fun t hf y => ?_
  blk_simp; rw [after0_6]
  exact point6 m c t y

theorem whole2 (c : Dev nD) (t : Fin cfg0.N) : iblk m c 2 t = m ((c : Thread nD τ).loc main_arg2) := by
  funext i
  idx_vars i
  blk_point [iblk, V, idx_val t]

theorem point7 (c : Dev nD) (t : Fin cfg0.N) (y : S32x1024.Idx) :
    out0_7 (iblk m c 0 t) (iblk m c 1 t) (iblk m c 2 t) (iblk m c 3 t) (iblk m c 4 t) y
      = Host.reduceAdd (F := Ideal) (m ((c : Thread nD τ).loc main_arg2)) (constant Cert.Reference20Ideal.S_ .f32 0x00000000#32) Cert.Reference20Ideal.Gen.reducesTo_S8x32x1024_S32x1024_d0 Cert.Reference20Ideal.Gen.h_S_ (((cfg0.win 7).blk t).view.emb y) := by
  have h0 : ((((cfg0.win 7).blk t).view.emb y) 0).val = (y 0).val := by blk_point [idx_val t]
  have h1 : ((((cfg0.win 7).blk t).view.emb y) 1).val = (y 1).val := by blk_point [idx_val t]
  rw [whole2, show ((cfg0.win 7).blk t).view.emb y = y from (eq_ix2 (n0 := 32) (n1 := 1024) _).trans ((congrArg₂ ix2 (Fin.ext h0) (Fin.ext h1)).trans (eq_ix2 y).symm)]
  canon_tiles x h
  all_goals
    open_payloads
    pointwise [View.ld_apply]
    simp only [Fin.sum_univ_castSucc, Fin.sum_univ_zero, zero_add]
    rw [show y 0 = x 0 from Fin.ext h0, show y 1 = x 1 from Fin.ext h1]
    rfl

theorem final7 (c : Dev nD) : (dats m 0 c).arrAt 7 (cfgs 0).N
      = Host.reduceAdd (F := Ideal) (m ((c : Thread nD τ).loc main_arg2)) (constant Cert.Reference20Ideal.S_ .f32 0x00000000#32) Cert.Reference20Ideal.Gen.reducesTo_S8x32x1024_S32x1024_d0 Cert.Reference20Ideal.Gen.h_S_ := by
  refine (dats m 0 c).arrAt_eq_of_covers 7 _ (by decide +kernel) fun t hf y => ?_
  blk_simp; rw [after0_7]
  exact point7 m c t y

theorem whole3 (c : Dev nD) (t : Fin cfg0.N) : iblk m c 3 t = m ((c : Thread nD τ).loc main_arg3) := by
  funext i
  idx_vars i
  blk_point [iblk, V, idx_val t]

theorem point8 (c : Dev nD) (t : Fin cfg0.N) (y : S8x128.Idx) :
    out0_8 (iblk m c 0 t) (iblk m c 1 t) (iblk m c 2 t) (iblk m c 3 t) (iblk m c 4 t) y
      = Host.reduceAdd (F := Ideal) (m ((c : Thread nD τ).loc main_arg3)) (constant Cert.Reference20Ideal.S_ .f32 0x00000000#32) Cert.Reference20Ideal.Gen.reducesTo_S8x8x128_S8x128_d0 Cert.Reference20Ideal.Gen.h_S_ (((cfg0.win 8).blk t).view.emb y) := by
  have h0 : ((((cfg0.win 8).blk t).view.emb y) 0).val = (y 0).val := by blk_point [idx_val t]
  have h1 : ((((cfg0.win 8).blk t).view.emb y) 1).val = (y 1).val := by blk_point [idx_val t]
  rw [whole3, show ((cfg0.win 8).blk t).view.emb y = y from (eq_ix2 (n0 := 8) (n1 := 128) _).trans ((congrArg₂ ix2 (Fin.ext h0) (Fin.ext h1)).trans (eq_ix2 y).symm)]
  canon_tiles x h
  all_goals
    open_payloads
    pointwise [View.ld_apply]
    simp only [Fin.sum_univ_castSucc, Fin.sum_univ_zero, zero_add]
    rw [show y 0 = x 0 from Fin.ext h0, show y 1 = x 1 from Fin.ext h1]
    rfl

theorem final8 (c : Dev nD) : (dats m 0 c).arrAt 8 (cfgs 0).N
      = Host.reduceAdd (F := Ideal) (m ((c : Thread nD τ).loc main_arg3)) (constant Cert.Reference20Ideal.S_ .f32 0x00000000#32) Cert.Reference20Ideal.Gen.reducesTo_S8x8x128_S8x128_d0 Cert.Reference20Ideal.Gen.h_S_ := by
  refine (dats m 0 c).arrAt_eq_of_covers 8 _ (by decide +kernel) fun t hf y => ?_
  blk_simp; rw [after0_8]
  exact point8 m c t y

theorem whole4 (c : Dev nD) (t : Fin cfg0.N) : iblk m c 4 t = m ((c : Thread nD τ).loc main_arg4) := by
  funext i
  idx_vars i
  blk_point [iblk, V, idx_val t]

theorem point9 (c : Dev nD) (t : Fin cfg0.N) (y : S8x1152.Idx) :
    out0_9 (iblk m c 0 t) (iblk m c 1 t) (iblk m c 2 t) (iblk m c 3 t) (iblk m c 4 t) y
      = Host.reduceAdd (F := Ideal) (m ((c : Thread nD τ).loc main_arg4)) (constant Cert.Reference20Ideal.S_ .f32 0x00000000#32) Cert.Reference20Ideal.Gen.reducesTo_S40x8x1152_S8x1152_d0 Cert.Reference20Ideal.Gen.h_S_ (((cfg0.win 9).blk t).view.emb y) := by
  have h0 : ((((cfg0.win 9).blk t).view.emb y) 0).val = (y 0).val := by blk_point [idx_val t]
  have h1 : ((((cfg0.win 9).blk t).view.emb y) 1).val = (y 1).val := by blk_point [idx_val t]
  rw [whole4, show ((cfg0.win 9).blk t).view.emb y = y from (eq_ix2 (n0 := 8) (n1 := 1152) _).trans ((congrArg₂ ix2 (Fin.ext h0) (Fin.ext h1)).trans (eq_ix2 y).symm)]
  canon_tiles x h
  all_goals
    open_payloads
    pointwise [View.ld_apply]
    simp only [Fin.sum_univ_castSucc, Fin.sum_univ_zero, zero_add]
    rw [show y 0 = x 0 from Fin.ext h0, show y 1 = x 1 from Fin.ext h1]
    rfl

theorem final9 (c : Dev nD) : (dats m 0 c).arrAt 9 (cfgs 0).N
      = Host.reduceAdd (F := Ideal) (m ((c : Thread nD τ).loc main_arg4)) (constant Cert.Reference20Ideal.S_ .f32 0x00000000#32) Cert.Reference20Ideal.Gen.reducesTo_S40x8x1152_S8x1152_d0 Cert.Reference20Ideal.Gen.h_S_ := by
  refine (dats m 0 c).arrAt_eq_of_covers 9 _ (by decide +kernel) fun t hf y => ?_
  blk_simp; rw [after0_9]
  exact point9 m c t y

end Kernel

section Claims

theorem reference_quiescent : quiescent_Reference20Ideal := fun m g _ =>
  (θ_run Cert.Reference20Ideal.defs _ _).mono (fun r h => ⟨fun c => (h c).2.2.2.2.2, sem_eq_zero_of_no_sems (by decide) r.2⟩) (Cert.Reference20Ideal.Value.run m g)

set_option maxHeartbeats 4000000 in
theorem agrees : algebraic_Kernel20Ideal_Reference20Ideal := by
  pair_intro
  · run_from Cert.Kernel20Ideal.Gen.run_main _ _
  · refine (θ_run Cert.Reference20Ideal.defs _ _).mono (fun r h c => ?_) (Cert.Reference20Ideal.Value.run m' g')
    obtain ⟨e0, e1, e2, e3, e4, k⟩ := h c
    obtain ⟨h0, h1, h2, h3, h4⟩ := hagree c
    refine ⟨?_, ?_, ?_, ?_, ?_, k⟩
    · rw [e0, h0]
      exact (final5 m c).symm
    · rw [e1, h1]
      exact (final6 m c).symm
    · rw [e2, h2]
      exact (final7 m c).symm
    · rw [e3, h3]
      exact (final8 m c).symm
    · rw [e4, h4]
      exact (final9 m c).symm

end Claims

end Cert.Proof.SumSmall

end
-- ==== Proof.lean ====
/- The claim: the witnesses of the programs' facts, then each call's frames, its idealization and its values, in the order the claim lists them. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Pre_ffn2_finite
public import proofs.«01_k».proof.Proof.Gen.Pre_ffn1_finite
public import proofs.«01_k».proof.Proof.Ffn2DownDx
public import proofs.«01_k».proof.Proof.Ffn2DownDw
public import proofs.«01_k».proof.Proof.Ffn2UpDx
public import proofs.«01_k».proof.Proof.Ffn2UpDw
public import proofs.«01_k».proof.Proof.Ffn1DownDx
public import proofs.«01_k».proof.Proof.Ffn1DownDw
public import proofs.«01_k».proof.Proof.InProjDw
public import proofs.«01_k».proof.Proof.MixOutDw
public import proofs.«01_k».proof.Proof.Ffn2Up
public import proofs.«01_k».proof.Proof.MixOutMergeBwd
public import proofs.«01_k».proof.Proof.ConvLnOut
public import proofs.«01_k».proof.Proof.GlaNormOut
public import proofs.«01_k».proof.Proof.MergeMixOut
public import proofs.«01_k».proof.Proof.MixIn
public import proofs.«01_k».proof.Proof.AdamW1Down
public import proofs.«01_k».proof.Proof.AdamConvOut
public import proofs.«01_k».proof.Proof.AdamW2Gu
public import proofs.«01_k».proof.Proof.AdamWMod
public import proofs.«01_k».proof.Proof.Head
public import proofs.«01_k».proof.Proof.SumSmall
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts, Cert.Kernel15.Gen.facts, Cert.Kernel15Ideal.Gen.facts,
    Cert.Reference15Ideal.Gen.facts, Cert.Kernel16.Gen.facts, Cert.Kernel16Ideal.Gen.facts, Cert.Reference16Ideal.Gen.facts,
    Cert.Kernel17.Gen.facts, Cert.Kernel17Ideal.Gen.facts, Cert.Reference17Ideal.Gen.facts, Cert.Kernel18.Gen.facts,
    Cert.Kernel18Ideal.Gen.facts, Cert.Reference18Ideal.Gen.facts, Cert.Kernel19.Gen.facts, Cert.Kernel19Ideal.Gen.facts,
    Cert.Reference19Ideal.Gen.facts, Cert.Kernel20.Gen.facts, Cert.Kernel20Ideal.Gen.facts, Cert.Reference20Ideal.Gen.facts,
    Cert.Pre_ffn2_finite.Gen.facts, Cert.Pre_ffn1_finite.Gen.facts,
    fun m g _ => Cert.Kernel.Gen.frame m g, fun m g _ => Cert.KernelIdeal.Gen.frame m g,
    fun m g _ => Cert.KernelIdeal.Gen.frame m g, Ffn2DownDx.reference_quiescent,
    fun m g _ => Ffn2DownDx.reference_quiescent m g trivial, fun m g _ => Cert.Kernel2.Gen.frame m g,
    fun m g _ => Cert.Kernel2Ideal.Gen.frame m g, Ffn2DownDw.reference_quiescent, fun m g _ => Cert.Kernel3.Gen.frame m g,
    fun m g _ => Cert.Kernel3Ideal.Gen.frame m g, Ffn2UpDx.reference_quiescent, fun m g _ => Cert.Kernel4.Gen.frame m g,
    fun m g _ => Cert.Kernel4Ideal.Gen.frame m g, Ffn2UpDw.reference_quiescent, fun m g _ => Cert.Kernel5.Gen.frame m g,
    fun m g _ => Cert.Kernel5Ideal.Gen.frame m g, fun m g _ => Cert.Kernel5Ideal.Gen.frame m g, Ffn1DownDx.reference_quiescent,
    fun m g _ => Ffn1DownDx.reference_quiescent m g trivial, fun m g _ => Cert.Kernel6.Gen.frame m g,
    fun m g _ => Cert.Kernel6Ideal.Gen.frame m g, Ffn1DownDw.reference_quiescent, fun m g _ => Cert.Kernel7.Gen.frame m g,
    fun m g _ => Cert.Kernel7Ideal.Gen.frame m g, InProjDw.reference_quiescent, fun m g _ => Cert.Kernel8.Gen.frame m g,
    fun m g _ => Cert.Kernel8Ideal.Gen.frame m g, MixOutDw.reference_quiescent, fun m g _ => Cert.Kernel9.Gen.frame m g,
    fun m g _ => Cert.Kernel9Ideal.Gen.frame m g, Ffn2Up.reference_quiescent, fun m g _ => Cert.Kernel10.Gen.frame m g,
    fun m g _ => Cert.Kernel10Ideal.Gen.frame m g, MixOutMergeBwd.reference_quiescent, fun m g _ => Cert.Kernel11.Gen.frame m g,
    fun m g _ => Cert.Kernel11Ideal.Gen.frame m g, ConvLnOut.reference_quiescent, fun m g _ => Cert.Kernel12.Gen.frame m g,
    fun m g _ => Cert.Kernel12Ideal.Gen.frame m g, GlaNormOut.reference_quiescent, fun m g _ => Cert.Kernel13.Gen.frame m g,
    fun m g _ => Cert.Kernel13Ideal.Gen.frame m g, MergeMixOut.reference_quiescent, fun m g _ => Cert.Kernel14.Gen.frame m g,
    fun m g _ => Cert.Kernel14Ideal.Gen.frame m g, MixIn.reference_quiescent, fun m g _ => Cert.Kernel15.Gen.frame m g,
    fun m g _ => Cert.Kernel15Ideal.Gen.frame m g, AdamW1Down.reference_quiescent, fun m g _ => Cert.Kernel16.Gen.frame m g,
    fun m g _ => Cert.Kernel16Ideal.Gen.frame m g, AdamConvOut.reference_quiescent, fun m g _ => Cert.Kernel17.Gen.frame m g,
    fun m g _ => Cert.Kernel17Ideal.Gen.frame m g, AdamW2Gu.reference_quiescent, fun m g _ => Cert.Kernel18.Gen.frame m g,
    fun m g _ => Cert.Kernel18Ideal.Gen.frame m g, AdamWMod.reference_quiescent, fun m g _ => Cert.Kernel19.Gen.frame m g,
    fun m g _ => Cert.Kernel19Ideal.Gen.frame m g, Head.reference_quiescent, fun m g _ => Cert.Kernel20.Gen.frame m g,
    fun m g _ => Cert.Kernel20Ideal.Gen.frame m g, SumSmall.reference_quiescent, trivial, Ffn2DownDx.agrees, trivial,
    Ffn2DownDw.agrees, trivial, Ffn2UpDx.agrees, trivial, Ffn2UpDw.agrees, trivial, Ffn1DownDx.agrees, trivial,
    Ffn1DownDw.agrees, trivial, InProjDw.agrees, trivial, MixOutDw.agrees, trivial, Ffn2Up.agrees, trivial,
    MixOutMergeBwd.agrees, trivial, ConvLnOut.agrees, trivial, GlaNormOut.agrees, trivial, MergeMixOut.agrees, trivial,
    MixIn.agrees, trivial, AdamW1Down.agrees, trivial, AdamConvOut.agrees, trivial, AdamW2Gu.agrees, trivial, AdamWMod.agrees,
    trivial, Head.agrees, trivial, SumSmall.agrees⟩

end Cert.Proof

end
